-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_neighbours_apart [hPre_neighbours_apart : Cert.Pre_neighbours_apart.Facts] (m : (ℓ : Loc Cert.KernelIdeal.nD Cert.KernelIdeal.τ Cert.KernelIdeal.sig) → Buf (Elt Ideal) ℓ) : Prop :=
  ∀ c : Dev Cert.KernelIdeal.nD,
    (Cert.Pre_neighbours_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neighbours_apart [hPre_neighbours_apart : Cert.Pre_neighbours_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neighbours_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_neighbours_apart [hKernelIdeal : Cert.KernelIdeal.Facts] [hPre_neighbours_apart : Cert.Pre_neighbours_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neighbours_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_neighbours_apart [hReferenceIdeal : Cert.ReferenceIdeal.Facts] [hPre_neighbours_apart : Cert.Pre_neighbours_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neighbours_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_temperature" .f32 0x41A00000#32 ((268435456 / 13421773 : ℝ) : EReal)
  ∧ IdealRules.named_const.Statement Cert.KernelIdeal.κ "masked" .f32 0xF149F2CA#32 ⊥

def algebraic_KernelIdeal_ReferenceIdeal_pre_neighbours_apart [hKernelIdeal : Cert.KernelIdeal.Facts] [hReferenceIdeal : Cert.ReferenceIdeal.Facts] [hPre_neighbours_apart : Cert.Pre_neighbours_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neighbours_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_neighbours_apart : Cert.Pre_neighbours_apart.Facts),
    quiescent_Kernel (hKernel := hKernel)
    ∧ quiescent_KernelIdeal (hKernelIdeal := hKernelIdeal)
    ∧ quiescent_KernelIdeal_pre_neighbours_apart (hKernelIdeal := hKernelIdeal) (hPre_neighbours_apart := hPre_neighbours_apart)
    ∧ quiescent_ReferenceIdeal (hReferenceIdeal := hReferenceIdeal)
    ∧ quiescent_ReferenceIdeal_pre_neighbours_apart (hReferenceIdeal := hReferenceIdeal) (hPre_neighbours_apart := hPre_neighbours_apart)
    ∧ preserves_Kernel_KernelIdeal
    ∧ algebraic_KernelIdeal_ReferenceIdeal_pre_neighbours_apart (hKernelIdeal := hKernelIdeal) (hReferenceIdeal := hReferenceIdeal) (hPre_neighbours_apart := hPre_neighbours_apart)
-- ==== Pre_neighbours_apart.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S8192x6 : Shape := ⟨2, ![8192, 6]⟩
abbrev S8192x1x1x1 : Shape := ⟨4, ![8192, 1, 1, 1]⟩
abbrev S8192x5 : Shape := ⟨2, ![8192, 5]⟩
abbrev S8192x5x1x1 : Shape := ⟨4, ![8192, 5, 1, 1]⟩
abbrev S8192x1x5x1 : Shape := ⟨4, ![8192, 1, 5, 1]⟩
abbrev S8192x1x1x5 : Shape := ⟨4, ![8192, 1, 1, 5]⟩
abbrev S8192x5x5x5 : Shape := ⟨4, ![8192, 5, 5, 5]⟩
abbrev S8192x5x5x1 : Shape := ⟨4, ![8192, 5, 5, 1]⟩
abbrev S8192x1x5x5 : Shape := ⟨4, ![8192, 1, 5, 5]⟩

class Facts : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  sliceFits_S8192x8192_S8192x6 : S8192x8192.Slices (fun _ => 0) S8192x6
  slices_S8192x6_S8192x1_0_0 : S8192x6.Slices ![0, 0] S8192x1
  shapeCasts_S8192x1_S8192 : S8192x1.ShapeCasts S8192
  bcast_S8192_S8192x1x1x1_0 : S8192.BroadcastsInDim S8192x1x1x1 (![0] : Fin 1 → Fin S8192x1x1x1.rank)
  slices_S8192x6_S8192x5_0_1 : S8192x6.Slices ![0, 1] S8192x5
  bcast_S_S8192x5 : S_.BroadcastsInDim S8192x5 (![] : Fin 0 → Fin S8192x5.rank)
  bcast_S8192x5_S8192x5x1x1_0_1 : S8192x5.BroadcastsInDim S8192x5x1x1 (![0, 1] : Fin 2 → Fin S8192x5x1x1.rank)
  bcast_S8192x5_S8192x1x5x1_0_2 : S8192x5.BroadcastsInDim S8192x1x5x1 (![0, 2] : Fin 2 → Fin S8192x1x5x1.rank)
  bcast_S8192x5_S8192x1x1x5_0_3 : S8192x5.BroadcastsInDim S8192x1x1x5 (![0, 3] : Fin 2 → Fin S8192x1x1x5.rank)
  bcast_S8192x5x1x1_S8192x5x5x1_0_1_2_3 : S8192x5x1x1.BroadcastsInDim S8192x5x5x1 (![0, 1, 2, 3] : Fin 4 → Fin S8192x5x5x1.rank)
  bcast_S8192x1x5x1_S8192x5x5x1_0_1_2_3 : S8192x1x5x1.BroadcastsInDim S8192x5x5x1 (![0, 1, 2, 3] : Fin 4 → Fin S8192x5x5x1.rank)
  bcast_S8192x5x5x1_S8192x5x5x5_0_1_2_3 : S8192x5x5x1.BroadcastsInDim S8192x5x5x5 (![0, 1, 2, 3] : Fin 4 → Fin S8192x5x5x5.rank)
  bcast_S8192x1x5x1_S8192x1x5x5_0_1_2_3 : S8192x1x5x1.BroadcastsInDim S8192x1x5x5 (![0, 1, 2, 3] : Fin 4 → Fin S8192x1x5x5.rank)
  bcast_S8192x1x1x5_S8192x1x5x5_0_1_2_3 : S8192x1x1x5.BroadcastsInDim S8192x1x5x5 (![0, 1, 2, 3] : Fin 4 → Fin S8192x1x5x5.rank)
  bcast_S8192x1x5x5_S8192x5x5x5_0_1_2_3 : S8192x1x5x5.BroadcastsInDim S8192x5x5x5 (![0, 1, 2, 3] : Fin 4 → Fin S8192x5x5x5.rank)
  bcast_S8192x1x1x1_S8192x5x5x5_0_1_2_3 : S8192x1x1x1.BroadcastsInDim S8192x5x5x5 (![0, 1, 2, 3] : Fin 4 → Fin S8192x5x5x5.rank)
  dot_S8192x128_S128x8192_S8192x8192_1_0_0_1_n_n_wf : DotDims.WF S8192x128 S128x8192 S8192x8192 [1] [0] [0] [1] [] []

variable [Facts]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def fn_norm {F : FTy → Type} [FloatOps F] (arg0 : FVec F S8192x128 .f32) : FVec F S8192x1 .f32 :=
  let v0 : FVec F S8192x128 .f32 := mulf arg0 arg0
  let cst : FVec F S_ .f32 := constant S_ .f32 0x00000000#32
  let v1 : FVec F S8192 .f32 := (fun x v => Host.reduceAdd x v reducesTo_S8192x128_S8192_d1 h_S_) v0 cst
  let v2 : FVec F S8192x1 .f32 := broadcastInDim S8192x1 ![0] bcast_S8192_S8192x1_0 v1
  let v3 : FVec F S8192x1 .f32 := Host.sqrt v2
  v3

def fn_part1 {F : FTy → Type} [FloatOps F] (main_v12 : IVec S8192x1x1x1 1) (main_v16 : IVec S8192x5x1x1 32) (main_v17 : IVec S8192x1x5x1 32) (main_v18 : IVec S8192x1x1x5 32) (main_v19 : IVec S8192x5x5x5 32) : IVec S8192x5x5x5 1 :=
  let main_v20 : IVec S8192x5x5x5 32 := iotaInDim S8192x5x5x5 32 2
  let main_v21 : IVec S8192x5x5x5 32 := iotaInDim S8192x5x5x5 32 3
  let main_v22 : IVec S8192x5x5x5 1 := cmpi .sge main_v19 main_v20
  let main_v23 : IVec S8192x5x5x5 1 := cmpi .sge main_v20 main_v21
  let main_v24 : IVec S8192x5x5x5 1 := ori main_v22 main_v23
  let main_v25 : IVec S8192x5x5x1 32 := broadcastInDim S8192x5x5x1 ![0, 1, 2, 3] bcast_S8192x5x1x1_S8192x5x5x1_0_1_2_3 main_v16
  let main_v26 : IVec S8192x5x5x1 32 := broadcastInDim S8192x5x5x1 ![0, 1, 2, 3] bcast_S8192x1x5x1_S8192x5x5x1_0_1_2_3 main_v17
  let main_v27 : IVec S8192x5x5x1 1 := cmpi .ne main_v25 main_v26
  let main_v28 : IVec S8192x5x5x5 1 := broadcastInDim S8192x5x5x5 ![0, 1, 2, 3] bcast_S8192x5x5x1_S8192x5x5x5_0_1_2_3 main_v27
  let main_v29 : IVec S8192x5x5x5 1 := ori main_v24 main_v28
  let main_v30 : IVec S8192x1x5x5 32 := broadcastInDim S8192x1x5x5 ![0, 1, 2, 3] bcast_S8192x1x5x1_S8192x1x5x5_0_1_2_3 main_v17
  let main_v31 : IVec S8192x1x5x5 32 := broadcastInDim S8192x1x5x5 ![0, 1, 2, 3] bcast_S8192x1x1x5_S8192x1x5x5_0_1_2_3 main_v18
  let main_v32 : IVec S8192x1x5x5 1 := cmpi .ne main_v30 main_v31
  let main_v33 : IVec S8192x5x5x5 1 := broadcastInDim S8192x5x5x5 ![0, 1, 2, 3] bcast_S8192x1x5x5_S8192x5x5x5_0_1_2_3 main_v32
  let main_v34 : IVec S8192x5x5x5 1 := ori main_v29 main_v33
  let main_v35 : IVec S8192x5x5x5 1 := broadcastInDim S8192x5x5x5 ![0, 1, 2, 3] bcast_S8192x1x1x1_S8192x5x5x5_0_1_2_3 main_v12
  let main_v36 : IVec S8192x5x5x5 1 := andi main_v35 main_v34
  main_v36

def fn {F : FTy → Type} [FloatOps F] (main_arg0 : FVec F S4096x128 .f32) (main_arg1 : FVec F S4096x128 .f32) : IVec S8192x5x5x5 1 :=
  let main_v0 : FVec F S8192x128 .f32 := (fun a b => concatenate S8192x128 0 [⟨S4096x128, a⟩, ⟨S4096x128, b⟩] concatenates_S4096x128_S4096x128_S8192x128_d0) main_arg0 main_arg1
  let main_v1 : FVec F S8192x1 .f32 := fn_norm (F := F) main_v0
  let main_cst : FVec F S_ .f32 := constant S_ .f32 0x322BCC77#32
  let main_v2 : FVec F S8192x1 .f32 := broadcastInDim S8192x1 ![] bcast_S_S8192x1 main_cst
  let main_v3 : FVec F S8192x1 .f32 := maximumf main_v1 main_v2
  let main_v4 : FVec F S8192x128 .f32 := broadcastInDim S8192x128 ![0, 1] bcast_S8192x1_S8192x128_0_1 main_v3
  let main_v5 : FVec F S8192x128 .f32 := Host.divf main_v0 main_v4
  let main_v6 : FVec F S128x8192 .f32 := (transpose S128x8192 [1, 0] · transposes_S8192x128_S128x8192_1_0) main_v5
  let main_v7 : FVec F S8192x8192 .f32 := (fun l r => Host.dotGeneral dot_S8192x128_S128x8192_S8192x8192_1_0_0_1_n_n none l r) main_v5 main_v6
  let main_values : FVec F S8192x6 .f32 := (fun x => (Host.topK S8192x6 1 (FloatOps.cmpfTotal .gt) x sliceFits_S8192x8192_S8192x6).1) main_v7
  let main_indices : IVec S8192x6 32 := (fun x => (Host.topK S8192x6 1 (FloatOps.cmpfTotal .gt) x sliceFits_S8192x8192_S8192x6).2) main_v7
  let main_v8 : IVec S8192x1 32 := (extractStridedSlice S8192x1 ![0, 0] · slices_S8192x6_S8192x1_0_0) main_indices
  let main_v9 : IVec S8192 32 := shapeCast S8192 main_v8 shapeCasts_S8192x1_S8192
  let main_v10 : IVec S8192 32 := iotaInDim S8192 32 0
  let main_v11 : IVec S8192 1 := cmpi .eq main_v9 main_v10
  let main_v12 : IVec S8192x1x1x1 1 := broadcastInDim S8192x1x1x1 ![0] bcast_S8192_S8192x1x1x1_0 main_v11
  let main_v13 : IVec S8192x5 32 := (extractStridedSlice S8192x5 ![0, 1] · slices_S8192x6_S8192x5_0_1) main_indices
  let main_c : IVec S_ 32 := constantI S_ 32 255#32
  let main_v14 : IVec S8192x5 32 := broadcastInDim S8192x5 ![] bcast_S_S8192x5 main_c
  let main_v15 : IVec S8192x5 32 := andi main_v13 main_v14
  let main_v16 : IVec S8192x5x1x1 32 := broadcastInDim S8192x5x1x1 ![0, 1] bcast_S8192x5_S8192x5x1x1_0_1 main_v15
  let main_v17 : IVec S8192x1x5x1 32 := broadcastInDim S8192x1x5x1 ![0, 2] bcast_S8192x5_S8192x1x5x1_0_2 main_v15
  let main_v18 : IVec S8192x1x1x5 32 := broadcastInDim S8192x1x1x5 ![0, 3] bcast_S8192x5_S8192x1x1x5_0_3 main_v15
  let main_v19 : IVec S8192x5x5x5 32 := iotaInDim S8192x5x5x5 32 1
  fn_part1 (F := F) main_v12 main_v16 main_v17 main_v18 main_v19
-- ==== Kernel.lean ====
abbrev S4096x128 : Shape := ⟨2, ![4096, 128]⟩
abbrev S8192x128 : Shape := ⟨2, ![8192, 128]⟩
abbrev S128x8192 : Shape := ⟨2, ![128, 8192]⟩
abbrev S8192 : Shape := ⟨1, ![8192]⟩
abbrev S8192x1 : Shape := ⟨2, ![8192, 1]⟩
abbrev S1x1 : Shape := ⟨2, ![1, 1]⟩
abbrev S256x128 : Shape := ⟨2, ![256, 128]⟩
abbrev S256x8192 : Shape := ⟨2, ![256, 8192]⟩
abbrev S256x256 : Shape := ⟨2, ![256, 256]⟩
abbrev S256x512 : Shape := ⟨2, ![256, 512]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 6
  | .vmem => 11
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S128x8192, .f32⟩
  | .hbm, ⟨5, _⟩ => ⟨S1x1, .f32⟩
  | .local _ .vmem, ⟨0, _⟩ => ⟨S8192x128, .f32⟩
  | .local _ .vmem, ⟨1, _⟩ => ⟨S8192x128, .f32⟩
  | .local _ .vmem, ⟨2, _⟩ => ⟨S128x8192, .f32⟩
  | .local _ .vmem, ⟨3, _⟩ => ⟨S256x128, .f32⟩
  | .local _ .vmem, ⟨4, _⟩ => ⟨S256x128, .f32⟩
  | .local _ .vmem, ⟨5, _⟩ => ⟨S128x8192, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10

abbrev nD : Nat := 1
abbrev τ : Topo := Topo.v7x

variable {F : FTy → Type} [FloatOps F]

abbrev grid0 : Pipeline.Grid := .none

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_3 (i : grid1.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== KernelIdeal.lean ====
variable {F : FTy → Type} [FloatOps F] [Named F]
def κ : String → Option EReal := fun
  | "inv_temperature" => some ((268435456 / 13421773 : ℝ) : EReal)
  | "masked" => some ⊥
  | _ => none
-- ==== ReferenceIdeal.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S8192x6 : Shape := ⟨2, ![8192, 6]⟩
abbrev S8192x5 : Shape := ⟨2, ![8192, 5]⟩
abbrev S4096 : Shape := ⟨1, ![4096]⟩
abbrev S8192x5x1 : Shape := ⟨3, ![8192, 5, 1]⟩
abbrev S8192x5x2 : Shape := ⟨3, ![8192, 5, 2]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S128x8192, .f32⟩
  | .hbm, ⟨14, _⟩ => ⟨S8192x8192, .f32⟩
  | .hbm, ⟨15, _⟩ => ⟨S8192x6, .f32⟩
  | .hbm, ⟨16, _⟩ => ⟨S8192x6, .i32⟩
  | .hbm, ⟨17, _⟩ => ⟨S8192x5, .i32⟩
  | .hbm, ⟨18, _⟩ => ⟨S4096x128, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192, .i32⟩
  | .hbm, ⟨41, _⟩ => ⟨S8192x1, .i32⟩
  | .hbm, ⟨42, _⟩ => ⟨S_, .i32⟩
  | .hbm, ⟨43, _⟩ => ⟨S8192x1, .i32⟩
  | .hbm, ⟨44, _⟩ => ⟨S8192x1, .i1⟩
  | .hbm, ⟨45, _⟩ => ⟨S_, .i32⟩
  | .hbm, ⟨46, _⟩ => ⟨S8192x1, .i32⟩
  | .hbm, ⟨47, _⟩ => ⟨S8192x1, .i32⟩
  | .hbm, ⟨48, _⟩ => ⟨S8192x1, .i32⟩
  | .hbm, ⟨49, _⟩ => ⟨S_, .i32⟩
  | .hbm, ⟨50, _⟩ => ⟨S8192x5, .i32⟩
  | .hbm, ⟨51, _⟩ => ⟨S8192x5, .i1⟩
  | .hbm, ⟨52, _⟩ => ⟨S_, .i32⟩
  | .hbm, ⟨53, _⟩ => ⟨S8192x5, .i32⟩
  | .hbm, ⟨54, _⟩ => ⟨S8192x5, .i32⟩
  | .hbm, ⟨55, _⟩ => ⟨S8192x5, .i32⟩
  | .hbm, ⟨56, _⟩ => ⟨S8192x5, .i32⟩
  | .hbm, ⟨57, _⟩ => ⟨S8192x5x1, .i32⟩
  | .hbm, ⟨58, _⟩ => ⟨S8192x5x1, .i32⟩
  | .hbm, ⟨59, _⟩ => ⟨S8192x5x2, .i32⟩
  | .hbm, ⟨60, _⟩ => ⟨S_, .f32⟩
  | .hbm, ⟨61, _⟩ => ⟨S8192x5, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1x1, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_values : Ref sig .tc := ⟨.hbm, 15, rfl⟩
abbrev main_indices : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Proof.Vocab.lean ====
module

public import proofs.«01_k».proof.Defs
public import proofs.«01_k».proof.Proof.Gen.KernelIdeal.Frame
public import Idealize.ShloMosaic.Lib.Pipeline.Value
public import Idealize.ShloMosaic.Lib.Tactic

@[expose] public section

set_option maxRecDepth 200000

noncomputable section

open Idealize.ShloMosaic Idealize.ShloMosaic.TcCoe Idealize.SL.Sem

/-! What one grid point of the loss kernel leaves in its output block, as one expression over the blocks it reads. -/

namespace Cert.KernelIdeal.Value

open Cert.KernelIdeal Cert.KernelIdeal.Gen

variable {F : FTy → Type} [FloatOps F] [Named F]

/-- The candidates of a row block: the larger and the smaller track of the tournament, side by side. -/
def cand (i : grid1.Coords) (v0 : Vec F S256x128 .f32) (v2 : Vec F S128x8192 .f32) : FVec F S256x512 .f32 :=
  k1_pay76
    (k1_pay61 (k1_pay20 i v0 v2) (k1_pay24 i v0 v2))
    (k1_pay62 (k1_pay20 i v0 v2) (k1_pay21 i v0 v2) (k1_pay24 i v0 v2) (k1_pay25 i v0 v2))
    (k1_pay63 (k1_pay28 i v0 v2) (k1_pay32 i v0 v2))
    (k1_pay64 (k1_pay28 i v0 v2) (k1_pay29 i v0 v2) (k1_pay32 i v0 v2) (k1_pay33 i v0 v2))
    (k1_pay65 (k1_pay36 i v0 v2) (k1_pay40 i v0 v2))
    (k1_pay66 (k1_pay36 i v0 v2) (k1_pay37 i v0 v2) (k1_pay38 i v0 v2) (k1_pay39 i v0 v2) (k1_pay40 i v0 v2))
    (k1_pay67 (k1_pay1 i v0 v2))
    (k1_pay68 (k1_pay1 i v0 v2))
    (k1_pay69 (k1_pay1 i v0 v2))
    (k1_pay70 (k1_pay1 i v0 v2))
    (k1_pay71 (k1_pay1 i v0 v2))
    (k1_pay72 (k1_pay1 i v0 v2))
    (k1_pay73 (k1_pay4 i v0 v2) (k1_pay8 i v0 v2) (k1_pay12 i v0 v2) (k1_pay16 i v0 v2))
    (k1_pay74 (k1_pay4 i v0 v2) (k1_pay8 i v0 v2) (k1_pay12 i v0 v2) (k1_pay16 i v0 v2))
    (k1_pay75 (k1_pay4 i v0 v2) (k1_pay5 i v0 v2) (k1_pay8 i v0 v2) (k1_pay9 i v0 v2) (k1_pay12 i v0 v2) (k1_pay13 i v0 v2) (k1_pay16 i v0 v2) (k1_pay17 i v0 v2))

/-- The sum after four rounds, the budget left, the maximum of the fifth round, and the candidates reaching it,
    from the candidates' tracks. -/
def late (w85 w88 w89 w92 w93 w96 w97 w100 w101 w104 w105 w108 w109 w110 w111 : FVec F S256x256 .f32) : FVec F S256x1 .f32 × FVec F S256x1 .f32 × FVec F S256x1 .f32 × IVec S256x512 32 :=
  (k1_pay98 (k1_pay81 w85 w88 w89 w92 w93 w96 w97 w100 w101 w104 w105 w108 w109 w110 w111) (k1_pay82 w85 w88 w89 w92 w93 w96 w97 w100 w101 w104 w105 w108 w109 w110 w111) (k1_pay83 w85 w88 w89 w92 w93 w96 w97 w100 w101 w104 w105 w108 w109 w110 w111) (k1_pay84 w85 w88 w89 w92 w93 w96 w97 w100 w101 w104 w105 w108 w109 w110 w111) (k1_pay85 w85 w88 w89 w92 w93 w96 w97 w100 w101 w104 w105 w108 w109 w110 w111) (k1_pay86 w85 w88 w89 w92 w93 w96 w97 w100 w101 w104 w105 w108 w109 w110 w111),
   k1_pay99 (k1_pay82 w85 w88 w89 w92 w93 w96 w97 w100 w101 w104 w105 w108 w109 w110 w111) (k1_pay83 w85 w88 w89 w92 w93 w96 w97 w100 w101 w104 w105 w108 w109 w110 w111) (k1_pay85 w85 w88 w89 w92 w93 w96 w97 w100 w101 w104 w105 w108 w109 w110 w111) (k1_pay86 w85 w88 w89 w92 w93 w96 w97 w100 w101 w104 w105 w108 w109 w110 w111),
   k1_pay101 (k1_pay83 w85 w88 w89 w92 w93 w96 w97 w100 w101 w104 w105 w108 w109 w110 w111) (k1_pay85 w85 w88 w89 w92 w93 w96 w97 w100 w101 w104 w105 w108 w109 w110 w111),
   k1_pay102 (k1_pay83 w85 w88 w89 w92 w93 w96 w97 w100 w101 w104 w105 w108 w109 w110 w111) (k1_pay85 w85 w88 w89 w92 w93 w96 w97 w100 w101 w104 w105 w108 w109 w110 w111))

/-- The same from the blocks. -/
def lateOf (i : grid1.Coords) (v0 : Vec F S256x128 .f32) (v2 : Vec F S128x8192 .f32) :
    FVec F S256x1 .f32 × FVec F S256x1 .f32 × FVec F S256x1 .f32 × IVec S256x512 32 :=
  late
    (k1_pay61 (k1_pay20 i v0 v2) (k1_pay24 i v0 v2))
    (k1_pay62 (k1_pay20 i v0 v2) (k1_pay21 i v0 v2) (k1_pay24 i v0 v2) (k1_pay25 i v0 v2))
    (k1_pay63 (k1_pay28 i v0 v2) (k1_pay32 i v0 v2))
    (k1_pay64 (k1_pay28 i v0 v2) (k1_pay29 i v0 v2) (k1_pay32 i v0 v2) (k1_pay33 i v0 v2))
    (k1_pay65 (k1_pay36 i v0 v2) (k1_pay40 i v0 v2))
    (k1_pay66 (k1_pay36 i v0 v2) (k1_pay37 i v0 v2) (k1_pay38 i v0 v2) (k1_pay39 i v0 v2) (k1_pay40 i v0 v2))
    (k1_pay67 (k1_pay1 i v0 v2))
    (k1_pay68 (k1_pay1 i v0 v2))
    (k1_pay69 (k1_pay1 i v0 v2))
    (k1_pay70 (k1_pay1 i v0 v2))
    (k1_pay71 (k1_pay1 i v0 v2))
    (k1_pay72 (k1_pay1 i v0 v2))
    (k1_pay73 (k1_pay4 i v0 v2) (k1_pay8 i v0 v2) (k1_pay12 i v0 v2) (k1_pay16 i v0 v2))
    (k1_pay74 (k1_pay4 i v0 v2) (k1_pay8 i v0 v2) (k1_pay12 i v0 v2) (k1_pay16 i v0 v2))
    (k1_pay75 (k1_pay4 i v0 v2) (k1_pay5 i v0 v2) (k1_pay8 i v0 v2) (k1_pay9 i v0 v2) (k1_pay12 i v0 v2) (k1_pay13 i v0 v2) (k1_pay16 i v0 v2) (k1_pay17 i v0 v2))

/-- What a point leaves in the output block that held `acc`. -/
def point (i : grid1.Coords) (v0 : Vec F S256x128 .f32) (v2 : Vec F S128x8192 .f32) (f1 f2 : Vec F S256x128 .f32)
    (acc : Vec F S1x1 .f32) : FVec F S1x1 .f32 :=
  k1_pay104 (k1_pay1 i v0 v2) (lateOf i v0 v2).1 (lateOf i v0 v2).2.1 (lateOf i v0 v2).2.2.1 (lateOf i v0 v2).2.2.2 f1 f2 acc

/-- The origin of a rank-two window. -/
theorem hz : (![0, 0] : Fin 2 → Nat) = fun _ => 0 := funext fun a => by fin_cases a <;> rfl

variable (c : Dev nD) (i : grid1.Coords) (a1 : Memref sig .tc .vmem S256x128 .f32) (h1 : a1.IsWhole)
  (a2 : Memref sig .tc .vmem S128x8192 .f32) (h2 : a2.IsWhole) (a3 : Memref sig .tc .vmem S256x128 .f32) (h3 : a3.IsWhole)
  (a4 : Memref sig .tc .vmem S256x128 .f32) (h4 : a4.IsWhole) (a5 : Memref sig .tc .vmem S1x1 .f32) (h5 : a5.IsWhole)
  (x0 : Vec F S256x128 .f32) (x1 : Vec F S128x8192 .f32) (x2 x3 : Vec F S256x128 .f32) (xo : Vec F S1x1 .f32)

/-- A later point adds to what the output block held. -/
theorem out_B (hc : ¬cond1_0 i) :
    out1_B_4 c i a1 h1 a2 h2 a3 h3 a4 h4 a5 h5 hc x0 x1 x2 x3 xo = point i x0 x1 x2 x3 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero (S := S1x1) hz]
  simp only [View.readAt_eq_ld, h1.read_unread, h2.read_unread, h3.read_unread, h4.read_unread, h5.read_unread,
    View.ld_unit_zero (S := S256x128) hz, View.ld_unit_zero (S := S128x8192) hz, View.ld_unit_zero (S := S1x1) hz]
  rfl

/-- The first point stores zero first and adds to it. -/
theorem out_A (hc : cond1_0 i) :
    out1_A_4 c i a1 h1 a2 h2 a3 h3 a4 h4 a5 h5 hc x0 x1 x2 x3 = point i x0 x1 x2 x3 k1_pay103 := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S256x128) hz, View.ld_unit_zero (S := S128x8192) hz, View.ld_unit_zero (S := S1x1) hz]
  rfl

end Cert.KernelIdeal.Value

end
-- ==== Proof.Rounds.lean ====
module

public import Mathlib.Data.EReal.Operations
public import Mathlib.Analysis.SpecialFunctions.Exp
public import Idealize.ShloMosaic.PureOps.Ideal

@[expose] public section

/-! Removing the five largest of a finite family in rounds: each round takes the maximum, counts how often it is
reached, adds its exponential as often as the budget allows, and strikes it out. -/

namespace Rounds

open Idealize.ShloMosaic

variable {ι : Type} [Fintype ι]

/-- The largest value of a family. -/
noncomputable def top (c : ι → EReal) : EReal := Finset.univ.sup c

/-- How many members of a family reach its largest value. -/
noncomputable def hits (c : ι → EReal) : EReal := ∑ i, if top c ≤ c i then (1 : EReal) else 0

/-- The family with every member that reaches the largest value struck out. -/
noncomputable def strike (c : ι → EReal) : ι → EReal := fun i => if top c ≤ c i then ⊥ else c i

/-- The running sum of removed exponentials after one more round with budget `k`. -/
noncomputable def gain (c : ι → EReal) (r k : EReal) : EReal := r + min (hits c) (max 0 k) * Ideal.exp (top c)

/-- The count of hits is the size of the set of hits. -/
theorem hits_eq (c : ι → EReal) :
    hits c = (((Finset.univ.filter fun i => top c ≤ c i).card : ℝ) : EReal) := by
  unfold hits
  rw [Finset.sum_boole]
  rfl

/-- What holds between two rounds, `p` members being removed. -/
structure Inv (g : ι → EReal) (v : ℕ → ℝ) (p : ℕ) (c : ι → EReal) (r k : EReal) : Prop where
  budget : k = ((5 - p : ℝ) : EReal)
  sum : r = ((∑ j ∈ Finset.range (min p 5), Real.exp (v j) : ℝ) : EReal)
  rest : p < 5 → (∀ i, c i = if g i ≤ (v p : EReal) then g i else ⊥) ∧
    (Finset.univ.filter fun i => (v p : EReal) < g i).card = p

/-- The five leading members of a family: values fall, and every other member lies below the last. -/
structure Lead (g : ι → EReal) (v : ℕ → ℝ) (τ : ℕ → ι) : Prop where
  inj : ∀ a b, a < 5 → b < 5 → τ a = τ b → a = b
  val : ∀ a, a < 5 → g (τ a) = (v a : EReal)
  anti : ∀ a b, a ≤ b → b < 5 → v b ≤ v a
  rest : ∀ i, (∀ a, a < 5 → τ a ≠ i) → g i ≤ (v 4 : EReal)

/-- One round past the budget changes nothing in the sum. -/
theorem Inv.step_done {g : ι → EReal} {v : ℕ → ℝ} {p : ℕ} {c : ι → EReal} {r k : EReal}
    (h : Inv g v p c r k) (hp : 5 ≤ p) :
    ∃ p', 5 ≤ p' ∧ Inv g v p' (strike c) (gain c r k) (k - hits c) := by
  refine ⟨p + (Finset.univ.filter fun i => top c ≤ c i).card, by omega, ?_, ?_, fun h' => by omega⟩
  · rw [h.budget, hits_eq, ← EReal.coe_sub]
    rw [EReal.coe_eq_coe_iff]; push_cast; ring
  · have h0 : max (0 : EReal) k = 0 := by
      rw [h.budget]
      refine max_eq_left ?_
      rw [← EReal.coe_zero, EReal.coe_le_coe_iff]
      have : (5 : ℝ) ≤ p := by exact_mod_cast hp
      linarith
    have h1 : (0 : EReal) ≤ hits c := by
      rw [hits_eq, ← EReal.coe_zero, EReal.coe_le_coe_iff]; positivity
    unfold gain
    rw [h0, min_eq_right h1, zero_mul, add_zero, h.sum]
    congr 3
    omega

/-- The leading members are exactly those above a bound that the last one misses. -/
theorem Lead.mem_of_lt {g : ι → EReal} {v : ℕ → ℝ} {τ : ℕ → ι} (L : Lead g v τ) {i : ι} {q : ℕ} (hq : q < 5)
    (h : (v q : EReal) < g i) : ∃ a, a < q ∧ τ a = i := by
  by_contra hn
  push Not at hn
  by_cases hr : ∀ a, a < 5 → τ a ≠ i
  · have := L.rest i hr
    have h2 : (v 4 : EReal) ≤ v q := EReal.coe_le_coe_iff.2 (L.anti q 4 (by omega) (by omega))
    exact absurd (h.trans_le (this.trans h2)) (lt_irrefl _)
  · push Not at hr
    obtain ⟨a, ha, e⟩ := hr
    have hqa : q ≤ a := by
      by_contra hlt
      exact hn a (by omega) e
    have := L.val a ha
    rw [e] at this
    rw [this, EReal.coe_lt_coe_iff] at h
    exact absurd (L.anti q a hqa ha) (not_le.2 h)

/-- One round within the budget removes at least one more member. -/
theorem Inv.step {g : ι → EReal} {v : ℕ → ℝ} {τ : ℕ → ι} (L : Lead g v τ) {p : ℕ} {c : ι → EReal} {r k : EReal}
    (h : Inv g v p c r k) (hp : p < 5) :
    ∃ p', p < p' ∧ Inv g v p' (strike c) (gain c r k) (k - hits c) := by
  classical
  obtain ⟨hc, hcard⟩ := h.rest hp
  have htop : top c = (v p : EReal) := by
    refine le_antisymm (Finset.sup_le fun i _ => ?_) ?_
    · rw [hc i]; split_ifs with hi
      · exact hi
      · exact bot_le
    · have : c (τ p) = (v p : EReal) := by rw [hc, L.val p hp, if_pos le_rfl]
      rw [← this]
      exact Finset.le_sup (f := c) (Finset.mem_univ _)
  have hhit : ∀ i, top c ≤ c i ↔ g i = (v p : EReal) := by
    intro i
    rw [htop, hc i]
    split_ifs with hi
    · exact ⟨fun hh => le_antisymm hi hh, fun hh => hh.ge⟩
    · exact ⟨fun hh => absurd (le_bot_iff.1 hh) (EReal.coe_ne_bot _), fun hh => absurd hh.le hi⟩
  have hset : (Finset.univ.filter fun i => top c ≤ c i) = Finset.univ.filter fun i => g i = (v p : EReal) := by
    ext i; simp [hhit]
  set q := (Finset.univ.filter fun i => g i = (v p : EReal)).card with hq
  have hhits : hits c = ((q : ℝ) : EReal) := by rw [hits_eq, hset]
  have hqpos : 0 < q := Finset.card_pos.2 ⟨τ p, by simp [L.val p hp]⟩
  -- those at or above the maximum
  have hall : (Finset.univ.filter fun i => (v p : EReal) ≤ g i).card = p + q := by
    conv_lhs => rw [show (Finset.univ.filter fun i => (v p : EReal) ≤ g i)
        = (Finset.univ.filter fun i => (v p : EReal) < g i) ∪ Finset.univ.filter fun i => g i = (v p : EReal) by
      ext i; simp only [Finset.mem_filter, Finset.mem_univ, true_and, Finset.mem_union]
      rw [le_iff_lt_or_eq]
      exact or_congr_right eq_comm]
    rw [Finset.card_union_of_disjoint, hcard]
    rw [Finset.disjoint_filter]
    intro i _ h1 h2
    exact absurd h2 h1.ne'
  -- the leading members keep the maximum as long as they are counted
  have hflat : ∀ j, p ≤ j → j < 5 → j < p + q → v j = v p := by
    intro j hpj hj5 hj
    by_contra hne
    have hlt : v j < v p := lt_of_le_of_ne (L.anti p j hpj hj5) hne
    have hsub : (Finset.univ.filter fun i => (v p : EReal) ≤ g i) ⊆ (Finset.range j).image τ := by
      intro i hi
      have hi' : (v p : EReal) ≤ g i := by simpa using hi
      obtain ⟨a, ha, e⟩ := L.mem_of_lt hj5 ((EReal.coe_lt_coe_iff.2 hlt).trans_le hi')
      exact Finset.mem_image.2 ⟨a, Finset.mem_range.2 ha, e⟩
    have h1 := Finset.card_le_card hsub
    have h2 := Finset.card_image_le (s := Finset.range j) (f := τ)
    rw [Finset.card_range] at h2
    omega
  have hmin : min p 5 = p := by omega
  refine ⟨p + q, by omega, ?_, ?_, ?_⟩
  · rw [h.budget, hhits, ← EReal.coe_sub]
    rw [EReal.coe_eq_coe_iff]; push_cast; ring
  · unfold gain
    have e0 : max (0 : EReal) k = ((5 - p : ℝ) : EReal) := by
      rw [h.budget]
      refine max_eq_right ?_
      rw [← EReal.coe_zero, EReal.coe_le_coe_iff]
      have : (p : ℝ) < 5 := by exact_mod_cast hp
      linarith
    have e1 : min (hits c) (max 0 k) = (((min (p + q) 5 - p : ℕ) : ℝ) : EReal) := by
      rw [e0, hhits]
      by_cases hle : p + q ≤ 5
      · have : min (p + q) 5 - p = q := by omega
        rw [this]
        refine min_eq_left ?_
        rw [EReal.coe_le_coe_iff]
        have : ((p + q : ℕ) : ℝ) ≤ 5 := by exact_mod_cast hle
        push_cast at this; linarith
      · have : min (p + q) 5 - p = 5 - p := by omega
        rw [this]
        have hcast : ((5 - p : ℕ) : ℝ) = 5 - p := by
          rw [Nat.cast_sub (by omega)]; norm_num
        rw [hcast]
        refine min_eq_right ?_
        rw [EReal.coe_le_coe_iff]
        have : (5 : ℝ) ≤ ((p + q : ℕ) : ℝ) := by exact_mod_cast (by omega : 5 ≤ p + q)
        push_cast at this; linarith
    rw [e1, htop, h.sum, hmin]
    change _ + _ * ((Real.exp (v p) : ℝ) : EReal) = _
    rw [← EReal.coe_mul, ← EReal.coe_add]
    congr 1
    have hs : min (p + q) 5 = p + (min (p + q) 5 - p) := by omega
    rw [hs, Finset.sum_range_add]
    congr 1
    rw [Nat.add_sub_cancel_left, Finset.sum_congr rfl (g := fun _ => Real.exp (v p))]
    · rw [Finset.sum_const, Finset.card_range, nsmul_eq_mul]
    · intro j hj
      have := Finset.mem_range.1 hj
      rw [hflat (p + j) (by omega) (by omega) (by omega)]
  · intro hlt
    have hdrop : v (p + q) < v p := by
      refine lt_of_le_of_ne (L.anti p (p + q) (by omega) hlt) fun heq => ?_
      have hsub : (Finset.range (p + q + 1)).image τ ⊆ Finset.univ.filter fun i => (v p : EReal) ≤ g i := by
        intro i hi
        obtain ⟨a, ha, e⟩ := Finset.mem_image.1 hi
        have ha := Finset.mem_range.1 ha
        simp only [Finset.mem_filter, Finset.mem_univ, true_and]
        rw [← e, L.val a (by omega), EReal.coe_le_coe_iff, ← heq]
        exact L.anti a (p + q) (by omega) hlt
      have h1 := Finset.card_le_card hsub
      rw [Finset.card_image_of_injOn, Finset.card_range] at h1
      · omega
      · intro a ha b hb e
        have ha := Finset.mem_range.1 (Finset.mem_coe.1 ha)
        have hb := Finset.mem_range.1 (Finset.mem_coe.1 hb)
        exact L.inj a b (by omega) (by omega) e
    have hgap : ∀ i, (v (p + q) : EReal) < g i ↔ (v p : EReal) ≤ g i := by
      intro i
      refine ⟨fun hi => ?_, fun hi => (EReal.coe_lt_coe_iff.2 hdrop).trans_le hi⟩
      obtain ⟨a, ha, e⟩ := L.mem_of_lt hlt hi
      rw [← e, L.val a (by omega), EReal.coe_le_coe_iff]
      by_cases hap : p ≤ a
      · exact (hflat a hap (by omega) ha).ge
      · exact L.anti a p (by omega) hp
    refine ⟨fun i => ?_, ?_⟩
    · unfold strike
      by_cases hi : g i = (v p : EReal)
      · rw [if_pos ((hhit i).2 hi), if_neg]
        rw [hi, EReal.coe_le_coe_iff]; exact not_le.2 hdrop
      · rw [if_neg (fun hh => hi ((hhit i).1 hh)), hc i]
        have : (g i ≤ (v (p + q) : EReal)) ↔ g i ≤ (v p : EReal) := by
          rw [← not_lt, hgap i, not_le]
          exact ⟨le_of_lt, fun hh => lt_of_le_of_ne hh hi⟩
        simp only [this]
    · refine Eq.trans ?_ hall
      congr 1
      ext i
      simp only [Finset.mem_filter, Finset.mem_univ, true_and]
      exact hgap i

/-- One round, whatever was removed before: the count grows up to five at least by one. -/
theorem Inv.next {g : ι → EReal} {v : ℕ → ℝ} {τ : ℕ → ι} (L : Lead g v τ) {n : ℕ} {c : ι → EReal} {r k : EReal}
    (h : ∃ p, min n 5 ≤ p ∧ Inv g v p c r k) :
    ∃ p, min (n + 1) 5 ≤ p ∧ Inv g v p (strike c) (gain c r k) (k - hits c) := by
  obtain ⟨p, hp, h⟩ := h
  by_cases h5 : p < 5
  · obtain ⟨p', h1, h2⟩ := h.step L h5
    exact ⟨p', by omega, h2⟩
  · obtain ⟨p', h1, h2⟩ := h.step_done (by omega)
    exact ⟨p', by omega, h2⟩

/-- The state of the rounds: what is left, the sum removed, the budget left. -/
noncomputable def state (g : ι → EReal) : ℕ → (ι → EReal) × EReal × EReal
  | 0 => (g, 0, ((5 : ℝ) : EReal))
  | n + 1 =>
    (strike (state g n).1, gain (state g n).1 (state g n).2.1 (state g n).2.2,
      (state g n).2.2 - hits (state g n).1)

/-- The removed sum after one more round. -/
theorem state_succ_gain (g : ι → EReal) (n : ℕ) : (state g (n + 1)).2.1 =
    gain (state g n).1 (state g n).2.1 (state g n).2.2 := rfl

/-- After five rounds the removed sum is that of the five leading members. -/
theorem removed_eq {g : ι → EReal} {v : ℕ → ℝ} {τ : ℕ → ι} (L : Lead g v τ) :
    (state g 5).2.1 = ((∑ j ∈ Finset.range 5, Real.exp (v j) : ℝ) : EReal) := by
  classical
  have start : ∀ n, ∃ p, min n 5 ≤ p ∧ Inv g v p (state g n).1 (state g n).2.1 (state g n).2.2 := by
    intro n
    induction n with
    | zero =>
      -- the largest value is that of the first leading member
      have hle : ∀ i, g i ≤ (v 0 : EReal) := by
        intro i
        by_contra hn
        obtain ⟨a, ha, _⟩ := L.mem_of_lt (q := 0) (by omega) (not_le.1 hn)
        omega
      refine ⟨0, by omega, ?_, ?_, fun _ => ⟨fun i => ?_, ?_⟩⟩
      · simp [state]
      · simp [state]
      · simp [state, hle i]
      · rw [Finset.card_eq_zero, Finset.filter_eq_empty_iff]
        intro i _
        exact not_lt.2 (hle i)
    | succ n ih => exact Inv.next L ih
  obtain ⟨p, hp, h⟩ := start 5
  rw [h.sum]
  congr 3
  omega

end Rounds
-- ==== Proof.TopTwo.lean ====
module

public import proofs.«01_k».proof.Proof.Rounds

@[expose] public section

/-! The two largest values of a set, found by a tournament, and why the two largest of every class hold the five
leading members of a row when no three of these share a class. -/

namespace TopTwo

open Rounds

variable {κ Λ ι : Type}

/-- `h` and `l` are the largest and the second largest value of `f` over the set `S`, counted with multiplicity. -/
def Is (f : κ → EReal) (S : κ → Prop) (h l : EReal) : Prop :=
  ∃ c d, S c ∧ S d ∧ d ≠ c ∧ f c = h ∧ f d = l ∧ (∀ x, S x → f x ≤ h) ∧ ∀ x, S x → x ≠ c → f x ≤ l

/-- Of two members, the larger and the smaller. -/
theorem Is.pair (f : κ → EReal) {a b : κ} (hab : a ≠ b) : Is f (fun x => x = a ∨ x = b) (max (f a) (f b)) (min (f a) (f b)) := by
  rcases le_total (f a) (f b) with h | h
  · refine ⟨b, a, Or.inr rfl, Or.inl rfl, hab, (max_eq_right h).symm, (min_eq_left h).symm, ?_, ?_⟩
    · rintro x (rfl | rfl)
      · exact le_max_left _ _
      · exact le_max_right _ _
    · rintro x (rfl | rfl) hx
      · rw [min_eq_left h]
      · exact absurd rfl hx
  · refine ⟨a, b, Or.inl rfl, Or.inr rfl, hab.symm, (max_eq_left h).symm, (min_eq_right h).symm, ?_, ?_⟩
    · rintro x (rfl | rfl)
      · exact le_max_left _ _
      · exact le_max_right _ _
    · rintro x (rfl | rfl) hx
      · exact absurd rfl hx
      · rw [min_eq_right h]

/-- Two disjoint sets together, where the first set's largest is the larger one. -/
theorem Is.join_le {f : κ → EReal} {S T : κ → Prop} {h l h' l' : EReal} (A : Is f S h l) (B : Is f T h' l')
    (hd : ∀ x, S x → ¬ T x) (hle : h' ≤ h) : Is f (fun x => S x ∨ T x) h (max h' (max l l')) := by
  obtain ⟨c, d, hc, hdS, hdc, e1, e2, a1, a2⟩ := A
  obtain ⟨c', d', hc', hd', hdc', e1', e2', b1, b2⟩ := B
  have hl' : l' ≤ h' := e2' ▸ b1 d' hd'
  have hcc : c' ≠ c := fun e => hd c hc (e ▸ hc')
  have hup : ∀ x, S x ∨ T x → f x ≤ h := by
    rintro x (hx | hx)
    · exact a1 x hx
    · exact (b1 x hx).trans hle
  have hlow : ∀ x, S x ∨ T x → x ≠ c → f x ≤ max h' (max l l') := by
    rintro x (hx | hx) hn
    · exact (a2 x hx hn).trans ((le_max_left _ _).trans (le_max_right _ _))
    · exact (b1 x hx).trans (le_max_left _ _)
  rcases le_total l h' with g | g
  · exact ⟨c, c', Or.inl hc, Or.inr hc', hcc, e1, by rw [e1', max_eq_left (max_le g hl')], hup, hlow⟩
  · exact ⟨c, d, Or.inl hc, Or.inl hdS, hdc, e1,
      by rw [e2, max_eq_left (hl'.trans g), max_eq_right g], hup, hlow⟩

/-- The order in which two sets are joined does not matter. -/
theorem Is.congr {f : κ → EReal} {S T : κ → Prop} {h l : EReal} (A : Is f S h l) (e : ∀ x, S x ↔ T x) : Is f T h l := by
  have : S = T := funext fun x => propext (e x)
  exact this ▸ A

/-- The two largest of two disjoint sets together. -/
theorem Is.join {f : κ → EReal} {S T : κ → Prop} {h l h' l' : EReal} (A : Is f S h l) (B : Is f T h' l')
    (hd : ∀ x, S x → ¬ T x) : Is f (fun x => S x ∨ T x) (max h h') (max (min h h') (max l l')) := by
  rcases le_total h' h with g | g
  · rw [max_eq_left g, min_eq_right g]
    exact A.join_le B hd g
  · rw [max_eq_right g, min_eq_left g, max_comm l l']
    exact (B.join_le A (fun x hx hy => hd x hy hx) g).congr fun x => or_comm

/-- The larger and the smaller track of a tournament over the values `f 0, f 1, …`, pairs of neighbours first. -/
noncomputable def bout (f : ℕ → EReal) : ℕ → ℕ → EReal × EReal
  | 0, k => (max (f (2 * k)) (f (2 * k + 1)), min (f (2 * k)) (f (2 * k + 1)))
  | n + 1, k => (max (bout f n (2 * k)).1 (bout f n (2 * k + 1)).1,
      max (min (bout f n (2 * k)).1 (bout f n (2 * k + 1)).1) (max (bout f n (2 * k)).2 (bout f n (2 * k + 1)).2))

/-- A bout of the tournament yields the two largest of the stretch it covers. -/
theorem bout_is (f : ℕ → EReal) : ∀ n k, Is f (fun j => 2 ^ (n + 1) * k ≤ j ∧ j < 2 ^ (n + 1) * (k + 1))
    (bout f n k).1 (bout f n k).2 := by
  intro n
  induction n with
  | zero =>
    intro k
    refine (Is.pair f (a := 2 * k) (b := 2 * k + 1) (by omega)).congr fun x => ?_
    simp only [zero_add, pow_one]
    omega
  | succ n ih =>
    intro k
    have hp : 2 ^ (n + 1 + 1) = 2 * 2 ^ (n + 1) := by rw [pow_succ]; ring
    refine ((ih (2 * k)).join (ih (2 * k + 1)) ?_).congr ?_
    · rintro x ⟨_, h1⟩ ⟨h2, _⟩
      omega
    · intro x
      have e1 : 2 ^ (n + 1) * (2 * k) = 2 ^ (n + 1 + 1) * k := by rw [hp]; ring
      have e2 : 2 ^ (n + 1) * (2 * k + 1) = 2 ^ (n + 1 + 1) * k + 2 ^ (n + 1) := by rw [hp]; ring
      have e3 : 2 ^ (n + 1) * (2 * k + 1 + 1) = 2 ^ (n + 1 + 1) * (k + 1) := by rw [hp]; ring
      have e4 : 2 ^ (n + 1 + 1) * (k + 1) = 2 ^ (n + 1 + 1) * k + 2 ^ (n + 1) + 2 ^ (n + 1) := by rw [hp]; ring
      rw [e1, e2, e3, e4]
      constructor
      · rintro (⟨h1, h2⟩ | ⟨h1, h2⟩) <;> constructor <;> omega
      · rintro ⟨h1, h2⟩
        by_cases h : x < 2 ^ (n + 1 + 1) * k + 2 ^ (n + 1)
        · exact Or.inl ⟨h1, h⟩
        · exact Or.inr ⟨by omega, h2⟩

/-- The two largest carry over along an injection onto the set. -/
theorem Is.map {μ : Type} {f : κ → EReal} {S : κ → Prop} {h l : EReal} {e : κ → μ} {f' : μ → EReal} {T : μ → Prop}
    (A : Is f S h l) (hf : ∀ x, S x → f' (e x) = f x) (hT : ∀ x, S x → T (e x))
    (hinj : ∀ x y, S x → S y → e x = e y → x = y) (hsurj : ∀ y, T y → ∃ x, S x ∧ e x = y) : Is f' T h l := by
  obtain ⟨c, d, hc, hd, hdc, e1, e2, a1, a2⟩ := A
  refine ⟨e c, e d, hT c hc, hT d hd, fun hh => hdc (hinj d c hd hc hh), by rw [hf c hc, e1], by rw [hf d hd, e2], ?_, ?_⟩
  · intro y hy
    obtain ⟨x, hx, rfl⟩ := hsurj y hy
    rw [hf x hx]; exact a1 x hx
  · intro y hy hn
    obtain ⟨x, hx, rfl⟩ := hsurj y hy
    rw [hf x hx]; exact a2 x hx fun hh => hn (by rw [hh])

/-- The leading members of a row, of which no three share a class, lead the slots that hold the two largest of every
class. -/
theorem lead_slots [Fintype κ] [Fintype ι] {f : κ → EReal} {cls : κ → Λ} {v : ℕ → ℝ} {u : ℕ → κ} (L : Lead f v u)
    (apart : ∀ a b c, a < b → b < c → c < 5 → cls (u a) = cls (u b) → cls (u b) = cls (u c) → False)
    {H W : Λ → ι} (hH : Function.Injective H) (hW : Function.Injective W) (hHW : ∀ a b, H a ≠ W b)
    (hcov : ∀ i, (∃ a, H a = i) ∨ ∃ a, W a = i) {g : ι → EReal}
    (two : ∀ a, Is f (fun c => cls c = a) (g (H a)) (g (W a))) :
    ∃ τ, Lead g v τ := by
  classical
  -- whatever exceeds the value of a leading member is an earlier leading member
  have above : ∀ {q : ℕ} {c : κ}, q < 5 → (v q : EReal) < f c → ∃ a, a < q ∧ u a = c := fun hq h => L.mem_of_lt hq h
  let early : ℕ → Prop := fun a => ∃ b, b < a ∧ cls (u b) = cls (u a)
  let τ : ℕ → ι := fun a => if early a then W (cls (u a)) else H (cls (u a))
  have τ_pos : ∀ {a}, early a → τ a = W (cls (u a)) := fun h => if_pos h
  have τ_neg : ∀ {a}, ¬ early a → τ a = H (cls (u a)) := fun h => if_neg h
  -- the earliest member of a class
  have first : ∀ a, a < 5 → ∃ b, b ≤ a ∧ cls (u b) = cls (u a) ∧ ¬ early b := by
    intro a
    induction a using Nat.strong_induction_on with
    | _ a ih =>
      intro ha
      by_cases he : early a
      · obtain ⟨b, hb, hc⟩ := he
        obtain ⟨b', h1, h2, h3⟩ := ih b hb (by omega)
        exact ⟨b', by omega, h2.trans hc, h3⟩
      · exact ⟨a, le_rfl, rfl, he⟩
  have hdist : ∀ a b, a < b → b < 5 → τ a ≠ τ b := by
    intro a b hab hb heq
    by_cases ea : early a
    · obtain ⟨a', ha', hc'⟩ := ea
      by_cases eb : early b
      · rw [τ_pos ⟨a', ha', hc'⟩, τ_pos eb] at heq
        exact apart a' a b ha' hab hb hc' (hW heq)
      · rw [τ_pos ⟨a', ha', hc'⟩, τ_neg eb] at heq
        exact hHW _ _ heq.symm
    · by_cases eb : early b
      · rw [τ_neg ea, τ_pos eb] at heq
        exact hHW _ _ heq
      · rw [τ_neg ea, τ_neg eb] at heq
        exact eb ⟨a, hab, hH heq⟩
  refine ⟨τ, ⟨?_, ?_, L.anti, ?_⟩⟩
  · intro a b ha hb heq
    rcases lt_trichotomy a b with h | h | h
    · exact absurd heq (hdist a b h hb)
    · exact h
    · exact absurd heq.symm (hdist b a h ha)
  · intro a ha
    obtain ⟨c, d, hc, hd, hdc, e1, e2, a1, a2⟩ := two (cls (u a))
    by_cases he : early a
    · rw [τ_pos he]
      obtain ⟨b, hb, hcb⟩ := he
      refine le_antisymm ?_ ?_
      · by_contra hn
        have hlt := not_le.1 hn
        have hgd : (v a : EReal) < f d := by rw [e2]; exact hlt
        have hgc : (v a : EReal) < f c := by rw [e1]; exact hgd.trans_le (a1 d hd)
        obtain ⟨x, hx, ex⟩ := above ha hgc
        obtain ⟨y, hy, ey⟩ := above ha hgd
        have hxc : cls (u x) = cls (u a) := by rw [ex]; exact hc
        have hyc : cls (u y) = cls (u a) := by rw [ey]; exact hd
        rcases lt_trichotomy x y with h | h | h
        · exact apart x y a h hy ha (hxc.trans hyc.symm) hyc
        · exact hdc (by rw [← ex, ← ey, h])
        · exact apart y x a h hx ha (hyc.trans hxc.symm) hxc
      · by_cases hca : u a = c
        · have hne : u b ≠ c := fun h => by
            have := L.inj a b ha (by omega) (hca.trans h.symm)
            omega
          have := a2 (u b) hcb hne
          rw [L.val b (by omega)] at this
          exact le_trans (EReal.coe_le_coe_iff.2 (L.anti b a (by omega) ha)) this
        · have := a2 (u a) rfl hca
          rwa [L.val a ha] at this
    · rw [τ_neg he]
      refine le_antisymm ?_ ?_
      · by_contra hn
        have hlt := not_le.1 hn
        rw [← e1] at hlt
        obtain ⟨x, hx, ex⟩ := above ha hlt
        exact he ⟨x, hx, by rw [ex]; exact hc⟩
      · have := a1 (u a) rfl
        rwa [L.val a ha] at this
  · intro i hi
    by_contra hn
    have hlt := not_le.1 hn
    rcases hcov i with ⟨a, rfl⟩ | ⟨a, rfl⟩
    · obtain ⟨c, d, hc, hd, hdc, e1, e2, a1, a2⟩ := two a
      rw [← e1] at hlt
      obtain ⟨x, hx, ex⟩ := above (by omega) hlt
      obtain ⟨b, h1, h2, h3⟩ := first x (by omega)
      refine hi b (by omega) ?_
      rw [τ_neg h3, h2, ex]
      exact congrArg H hc
    · obtain ⟨c, d, hc, hd, hdc, e1, e2, a1, a2⟩ := two a
      have hgd : (v 4 : EReal) < f d := by rw [e2]; exact hlt
      have hgc : (v 4 : EReal) < f c := by rw [e1]; exact hgd.trans_le (a1 d hd)
      obtain ⟨x, hx, ex⟩ := above (by omega) hgc
      obtain ⟨y, hy, ey⟩ := above (by omega) hgd
      have hxc : cls (u x) = a := by rw [ex]; exact hc
      have hyc : cls (u y) = a := by rw [ey]; exact hd
      rcases lt_trichotomy x y with h | h | h
      · refine hi y (by omega) ?_
        rw [τ_pos ⟨x, h, hxc.trans hyc.symm⟩, hyc]
      · exact hdc (by rw [← ex, ← ey, h])
      · refine hi x (by omega) ?_
        rw [τ_pos ⟨y, h, hyc.trans hxc.symm⟩, hxc]

end TopTwo
-- ==== Proof.Cand.lean ====
module

public import proofs.«01_k».proof.Proof.Vocab
public import proofs.«01_k».proof.Proof.TopTwo
public import Idealize.ShloMosaic.Lib.Pointwise

@[expose] public section

set_option maxRecDepth 65536

noncomputable section

open Idealize.ShloMosaic Idealize.ShloMosaic.TcCoe Idealize.SL.Sem

/-! The candidates of a row: the two largest of every class of columns that agree modulo 256. -/

namespace Cert.KernelIdeal.Value

open Cert.KernelIdeal Cert.KernelIdeal.Gen

/-- Slab `j` of 256 columns fits. -/
theorem slab_fits (j : ℕ) (h : j < 32) : S256x8192.Slices ![0, 256 * j] S256x256 := by
  refine ⟨rfl, fun a => ?_⟩
  fin_cases a
  · show 0 + 256 ≤ 256
    omega
  · show 256 * j + 256 ≤ 8192
    omega

/-- Row `r`, lane `q` of slab `j`. -/
def lane (S : FVec Ideal S256x8192 .f32) (r q : Fin 256) (j : ℕ) : EReal :=
  if h : j < 32 then extractStridedSlice S256x256 ![0, 256 * j] S (slab_fits j h) (ix2 r q) else ⊥

/-- It is the entry at column `256 j + q`. -/
theorem lane_eq (S : FVec Ideal S256x8192 .f32) (r q : Fin 256) (j : ℕ) (h : j < 32) :
    lane S r q j = S (ix2 r ⟨256 * j + q.val, by omega⟩) := by
  unfold lane
  rw [dif_pos h]
  pointwise []

/-- The left half of two tracks side by side is the first. -/
theorem side_left (x y : FVec Ideal S256x256 .f32) (h) (r q : Fin 256) :
    concatenate S256x512 1 [⟨S256x256, x⟩, ⟨S256x256, y⟩] h (ix2 r ⟨q.val, by omega⟩) = x (ix2 r q) := by
  have hq := q.isLt
  pointwise []

/-- The right half is the second. -/
theorem side_right (x y : FVec Ideal S256x256 .f32) (h) (r q : Fin 256) :
    concatenate S256x512 1 [⟨S256x256, x⟩, ⟨S256x256, y⟩] h (ix2 r ⟨256 + q.val, by omega⟩) = y (ix2 r q) := by
  have hq := q.isLt
  pointwise []

variable (i : grid1.Coords) (v0 : Vec Ideal S256x128 .f32) (v2 : Vec Ideal S128x8192 .f32)

/-- Value 85 of the tournament at an index, as a bout over the slabs of its lane. -/
theorem track_85 (r q : Fin 256) : (k1_pay61 (k1_pay20 i v0 v2) (k1_pay24 i v0 v2)) (ix2 r q) =
    (TopTwo.bout (lane (k1_pay1 i v0 v2) r q) 1 2).1 := rfl

/-- Value 88 of the tournament at an index, as a bout over the slabs of its lane. -/
theorem track_88 (r q : Fin 256) : (k1_pay62 (k1_pay20 i v0 v2) (k1_pay21 i v0 v2) (k1_pay24 i v0 v2) (k1_pay25 i v0 v2)) (ix2 r q) =
    (TopTwo.bout (lane (k1_pay1 i v0 v2) r q) 1 2).2 := rfl

/-- Value 89 of the tournament at an index, as a bout over the slabs of its lane. -/
theorem track_89 (r q : Fin 256) : (k1_pay63 (k1_pay28 i v0 v2) (k1_pay32 i v0 v2)) (ix2 r q) =
    (TopTwo.bout (lane (k1_pay1 i v0 v2) r q) 1 3).1 := rfl

/-- Value 92 of the tournament at an index, as a bout over the slabs of its lane. -/
theorem track_92 (r q : Fin 256) : (k1_pay64 (k1_pay28 i v0 v2) (k1_pay29 i v0 v2) (k1_pay32 i v0 v2) (k1_pay33 i v0 v2)) (ix2 r q) =
    (TopTwo.bout (lane (k1_pay1 i v0 v2) r q) 1 3).2 := rfl

/-- Value 93 of the tournament at an index, as a bout over the slabs of its lane. -/
theorem track_93 (r q : Fin 256) : (k1_pay65 (k1_pay36 i v0 v2) (k1_pay40 i v0 v2)) (ix2 r q) =
    (TopTwo.bout (lane (k1_pay1 i v0 v2) r q) 1 4).1 := rfl

/-- Value 96 of the tournament at an index, as a bout over the slabs of its lane. -/
theorem track_96 (r q : Fin 256) : (k1_pay66 (k1_pay36 i v0 v2) (k1_pay37 i v0 v2) (k1_pay38 i v0 v2) (k1_pay39 i v0 v2) (k1_pay40 i v0 v2)) (ix2 r q) =
    (TopTwo.bout (lane (k1_pay1 i v0 v2) r q) 1 4).2 := rfl

/-- Value 97 of the tournament at an index, as a bout over the slabs of its lane. -/
theorem track_97 (r q : Fin 256) : (k1_pay67 (k1_pay1 i v0 v2)) (ix2 r q) =
    (TopTwo.bout (lane (k1_pay1 i v0 v2) r q) 1 5).1 := rfl

/-- Value 100 of the tournament at an index, as a bout over the slabs of its lane. -/
theorem track_100 (r q : Fin 256) : (k1_pay68 (k1_pay1 i v0 v2)) (ix2 r q) =
    (TopTwo.bout (lane (k1_pay1 i v0 v2) r q) 1 5).2 := rfl

/-- Value 101 of the tournament at an index, as a bout over the slabs of its lane. -/
theorem track_101 (r q : Fin 256) : (k1_pay69 (k1_pay1 i v0 v2)) (ix2 r q) =
    (TopTwo.bout (lane (k1_pay1 i v0 v2) r q) 1 6).1 := rfl

/-- Value 104 of the tournament at an index, as a bout over the slabs of its lane. -/
theorem track_104 (r q : Fin 256) : (k1_pay70 (k1_pay1 i v0 v2)) (ix2 r q) =
    (TopTwo.bout (lane (k1_pay1 i v0 v2) r q) 1 6).2 := rfl

/-- Value 105 of the tournament at an index, as a bout over the slabs of its lane. -/
theorem track_105 (r q : Fin 256) : (k1_pay71 (k1_pay1 i v0 v2)) (ix2 r q) =
    (TopTwo.bout (lane (k1_pay1 i v0 v2) r q) 1 7).1 := rfl

/-- Value 108 of the tournament at an index, as a bout over the slabs of its lane. -/
theorem track_108 (r q : Fin 256) : (k1_pay72 (k1_pay1 i v0 v2)) (ix2 r q) =
    (TopTwo.bout (lane (k1_pay1 i v0 v2) r q) 1 7).2 := rfl

/-- Value 109 of the tournament at an index, as a bout over the slabs of its lane. -/
theorem track_109 (r q : Fin 256) : (k1_pay73 (k1_pay4 i v0 v2) (k1_pay8 i v0 v2) (k1_pay12 i v0 v2) (k1_pay16 i v0 v2)) (ix2 r q) =
    (TopTwo.bout (lane (k1_pay1 i v0 v2) r q) 2 0).1 := rfl

/-- Value 110 of the tournament at an index, as a bout over the slabs of its lane. -/
theorem track_110 (r q : Fin 256) : (k1_pay74 (k1_pay4 i v0 v2) (k1_pay8 i v0 v2) (k1_pay12 i v0 v2) (k1_pay16 i v0 v2)) (ix2 r q) =
    min (TopTwo.bout (lane (k1_pay1 i v0 v2) r q) 1 0).1 (TopTwo.bout (lane (k1_pay1 i v0 v2) r q) 1 1).1 := rfl

/-- Value 111 of the tournament at an index, as a bout over the slabs of its lane. -/
theorem track_111 (r q : Fin 256) : (k1_pay75 (k1_pay4 i v0 v2) (k1_pay5 i v0 v2) (k1_pay8 i v0 v2) (k1_pay9 i v0 v2) (k1_pay12 i v0 v2) (k1_pay13 i v0 v2) (k1_pay16 i v0 v2) (k1_pay17 i v0 v2)) (ix2 r q) =
    max (TopTwo.bout (lane (k1_pay1 i v0 v2) r q) 1 0).2 (TopTwo.bout (lane (k1_pay1 i v0 v2) r q) 1 1).2 := rfl

/-- The left half of the candidates, from the tracks. -/
theorem final_left (w85 w88 w89 w92 w93 w96 w97 w100 w101 w104 w105 w108 w109 w110 w111 : FVec Ideal S256x256 .f32) (r q : Fin 256) :
    k1_pay76 w85 w88 w89 w92 w93 w96 w97 w100 w101 w104 w105 w108 w109 w110 w111 (ix2 r ⟨q.val, by omega⟩) =
      (max (max (w109 (ix2 r q)) (max (w85 (ix2 r q)) (w89 (ix2 r q)))) (max (max (w93 (ix2 r q)) (w97 (ix2 r q))) (max (w101 (ix2 r q)) (w105 (ix2 r q))))) := by
  unfold k1_pay76
  exact (side_left _ _ _ r q).trans rfl

/-- The right half of the candidates, from the tracks. -/
theorem final_right (w85 w88 w89 w92 w93 w96 w97 w100 w101 w104 w105 w108 w109 w110 w111 : FVec Ideal S256x256 .f32) (r q : Fin 256) :
    k1_pay76 w85 w88 w89 w92 w93 w96 w97 w100 w101 w104 w105 w108 w109 w110 w111 (ix2 r ⟨256 + q.val, by omega⟩) =
      (max (min (max (w109 (ix2 r q)) (max (w85 (ix2 r q)) (w89 (ix2 r q)))) (max (max (w93 (ix2 r q)) (w97 (ix2 r q))) (max (w101 (ix2 r q)) (w105 (ix2 r q))))) (max (max (min (w109 (ix2 r q)) (max (w85 (ix2 r q)) (w89 (ix2 r q)))) (max (max (w110 (ix2 r q)) (w111 (ix2 r q))) (max (min (w85 (ix2 r q)) (w89 (ix2 r q))) (max (w88 (ix2 r q)) (w92 (ix2 r q)))))) (max (min (max (w93 (ix2 r q)) (w97 (ix2 r q))) (max (w101 (ix2 r q)) (w105 (ix2 r q)))) (max (max (min (w93 (ix2 r q)) (w97 (ix2 r q))) (max (w96 (ix2 r q)) (w100 (ix2 r q)))) (max (min (w101 (ix2 r q)) (w105 (ix2 r q))) (max (w104 (ix2 r q)) (w108 (ix2 r q)))))))) := by
  unfold k1_pay76
  exact (side_right _ _ _ r q).trans rfl

/-- A candidate of the left half is the larger track of its lane's tournament. -/
theorem cand_left (r q : Fin 256) :
    cand i v0 v2 (ix2 r ⟨q.val, by omega⟩) = (TopTwo.bout (lane (k1_pay1 i v0 v2) r q) 4 0).1 := by
  unfold cand
  rw [final_left, track_85, track_89, track_93, track_97, track_101, track_105, track_109]
  rfl

/-- A candidate of the right half is the smaller track of its lane's tournament. -/
theorem cand_right (r q : Fin 256) :
    cand i v0 v2 (ix2 r ⟨256 + q.val, by omega⟩) = (TopTwo.bout (lane (k1_pay1 i v0 v2) r q) 4 0).2 := by
  unfold cand
  rw [final_right, track_85, track_88, track_89, track_92, track_93, track_96, track_97, track_100, track_101, track_104, track_105, track_108, track_109, track_110, track_111]
  rfl

/-- So a lane's two candidates are the two largest of the columns that agree with it modulo 256. -/
theorem cand_two (r q : Fin 256) :
    TopTwo.Is (fun c : Fin 8192 => k1_pay1 i v0 v2 (ix2 r c)) (fun c => (⟨c.val % 256, Nat.mod_lt _ (by omega)⟩ : Fin 256) = q)
      (cand i v0 v2 (ix2 r ⟨q.val, by omega⟩)) (cand i v0 v2 (ix2 r ⟨256 + q.val, by omega⟩)) := by
  rw [cand_left, cand_right]
  have hq := q.isLt
  refine (TopTwo.bout_is (lane (k1_pay1 i v0 v2) r q) 4 0).map
    (e := fun j => (⟨(256 * j + q.val) % 8192, Nat.mod_lt _ (by omega)⟩ : Fin 8192)) ?_ ?_ ?_ ?_
  · rintro j ⟨_, hj⟩
    have hj : j < 32 := by simpa using hj
    rw [lane_eq _ _ _ _ hj]
    congr 2
    exact Fin.ext (Nat.mod_eq_of_lt (by omega))
  · rintro j ⟨_, hj⟩
    have hj : j < 32 := by simpa using hj
    refine Fin.ext ?_
    show (256 * j + q.val) % 8192 % 256 = q.val
    omega
  · rintro x y ⟨_, hx⟩ ⟨_, hy⟩ e
    have hx : x < 32 := by simpa using hx
    have hy : y < 32 := by simpa using hy
    have e : (256 * x + q.val) % 8192 = (256 * y + q.val) % 8192 := congrArg Fin.val e
    omega
  · intro c hc
    have hc : c.val % 256 = q.val := congrArg Fin.val hc
    have hlt := c.isLt
    refine ⟨c.val / 256, ⟨by omega, by simpa using (by omega : c.val / 256 < 32)⟩, Fin.ext ?_⟩
    show (256 * (c.val / 256) + q.val) % 8192 = c.val
    omega

end Cert.KernelIdeal.Value

end
-- ==== Proof.Consts.lean ====
module

public import Idealize.ShloMosaic.PureOps.Ideal

@[expose] public section

/-! The numbers that the programs' constants stand for. -/

namespace Consts

open Idealize.ShloMosaic

/-- The start of a maximum is the bottom. -/
theorem lowest : Ideal.ofBits .f32 0xFF800000#32 = ⊥ := by simp [Ideal.ofBits, Ideal.ieee]

/-- Five. -/
theorem five : Ideal.ofBits .f32 0x40A00000#32 = ((5 : ℝ) : EReal) := by
  simp [Ideal.ofBits, Ideal.ieee, -EReal.coe_mul]; norm_num

/-- The number of times the temperature goes into one. -/
noncomputable def rate : ℝ := 268435456 / 13421773

/-- The rate is positive. -/
theorem rate_pos : 0 < rate := by unfold rate; norm_num

/-- The temperature. -/
theorem temperature : Ideal.ofBits .f32 0x3D4CCCCD#32 = ((13421773 / 268435456 : ℝ) : EReal) := by
  simp [Ideal.ofBits, Ideal.ieee, -EReal.coe_mul]; norm_num

/-- To divide by the temperature is to multiply by the rate. -/
theorem over_temperature (x : EReal) : Ideal.div x (Ideal.ofBits .f32 0x3D4CCCCD#32) = x * (rate : EReal) := by
  rw [temperature, Ideal.div_coe (by norm_num)]
  congr 2
  unfold rate; norm_num

/-- One part in 8192. -/
theorem share : Ideal.ofBits .f32 0x39000000#32 = ((1 / 8192 : ℝ) : EReal) := by
  simp [Ideal.ofBits, Ideal.ieee, -EReal.coe_mul]; norm_num

/-- 8192. -/
theorem rows : Ideal.ofBits .f32 0x46000000#32 = ((8192 : ℝ) : EReal) := by
  simp [Ideal.ofBits, Ideal.ieee, -EReal.coe_mul]; norm_num

/-- The guard against a division by zero is a positive number. -/
theorem guard_pos : ∃ e : ℝ, 0 < e ∧ Ideal.ofBits .f32 0x322BCC77#32 = (e : EReal) := by
  refine ⟨(11258999 : ℝ) * 2 ^ (-50 : ℤ), by positivity, ?_⟩
  simp [Ideal.ofBits, Ideal.ieee, -EReal.coe_mul]; try norm_num

end Consts
-- ==== Proof.RoundsK.lean ====
module

public import proofs.«01_k».proof.Proof.Cand
public import proofs.«01_k».proof.Proof.Consts

@[expose] public section

set_option maxRecDepth 65536

noncomputable section

open Idealize.ShloMosaic Idealize.ShloMosaic.TcCoe Idealize.SL.Sem

/-! The five rounds of the loss kernel, row by row, are the rounds over the row's candidates. -/

namespace Cert.KernelIdeal.Value

open Cert.KernelIdeal Cert.KernelIdeal.Gen

/-- The largest candidate of every row. -/
def rowTop (c : FVec Ideal S256x512 .f32) : FVec Ideal S256x1 .f32 :=
  shapeCast S256x1 (multiReduction .maximumf [1] S256 c 0xFF800000#32 reduces_S256x512_S256 (.inl rfl) rfl) shapeCasts_S256_S256x1

/-- Which candidates reach the largest of their row. -/
def reach (c : FVec Ideal S256x512 .f32) : IVec S256x512 1 :=
  cmpf .oge c (broadcastTo S256x512 (rowTop c) broadcasts_S256x1_S256x512)

/-- How many candidates of every row reach its largest. -/
def rowHits (c : FVec Ideal S256x512 .f32) : FVec Ideal S256x1 .f32 :=
  shapeCast S256x1 (multiReduction .add [1] S256 (sitofp .f32 (extui 32 (reach c) natLt_1_32)) 0x00000000#32
    reduces_S256x512_S256 (.inl rfl) rfl) shapeCasts_S256_S256x1

/-- The candidates with those that reach the largest masked. -/
def rowStrike (c : FVec Ideal S256x512 .f32) : FVec Ideal S256x512 .f32 :=
  select (reach c) (broadcast S256x512 (Named.named κ "masked" 0xF149F2CA#32)) c

/-- The sum of removed exponentials after a round. -/
def rowGain (c : FVec Ideal S256x512 .f32) (r k : FVec Ideal S256x1 .f32) : FVec Ideal S256x1 .f32 :=
  addf r (mulf (minimumf (rowHits c) (maximumf (broadcast S256x1 (Scalar.ofBits .f32 0x00000000#32)) k)) (exp (rowTop c)))

/-- Candidates, removed sum and budget after `n` rounds. -/
def rows (c : FVec Ideal S256x512 .f32) : ℕ → FVec Ideal S256x512 .f32 × FVec Ideal S256x1 .f32 × FVec Ideal S256x1 .f32
  | 0 => (c, broadcast S256x1 (Scalar.ofBits .f32 0x00000000#32), broadcast S256x1 (Scalar.ofBits .f32 0x40A00000#32))
  | n + 1 => (rowStrike (rows c n).1, rowGain (rows c n).1 (rows c n).2.1 (rows c n).2.2, subf (rows c n).2.2 (rowHits (rows c n).1))

/-- Before the first round. -/
theorem rows_zero (c : FVec Ideal S256x512 .f32) : rows c 0 =
    (c, broadcast S256x1 (Scalar.ofBits .f32 0x00000000#32), broadcast S256x1 (Scalar.ofBits .f32 0x40A00000#32)) := rfl

/-- One more round. -/
theorem rows_succ (c : FVec Ideal S256x512 .f32) (n : ℕ) : rows c (n + 1) =
    (rowStrike (rows c n).1, rowGain (rows c n).1 (rows c n).2.1 (rows c n).2.2, subf (rows c n).2.2 (rowHits (rows c n).1)) := rfl

/-- The candidates after one more round. -/
theorem rows_cand (c : FVec Ideal S256x512 .f32) (n : ℕ) : (rows c (n + 1)).1 = rowStrike (rows c n).1 := by
  rw [rows_succ]

/-- The largest candidate of a row. -/
theorem rowTop_apply (c : FVec Ideal S256x512 .f32) (r : Fin 256) :
    rowTop c (ix2 r 0) = Rounds.top fun q => c (ix2 r q) := by
  pointwise [rowTop]
  rw [Consts.lowest]
  rfl

/-- Whether a candidate reaches the largest of its row. -/
theorem reach_apply (c : FVec Ideal S256x512 .f32) (r : Fin 256) (q : Fin 512) :
    reach c (ix2 r q) = BitVec.ofBool (decide ((Rounds.top fun q => c (ix2 r q)) ≤ c (ix2 r q))) := by
  rw [← rowTop_apply]
  pointwise [reach]

/-- A truth value as a number is one or nought. -/
theorem bit_number (b : Prop) [Decidable b] :
    (FloatOps.sitofp .f32 (BitVec.setWidth 32 (BitVec.ofBool (decide b))) : Ideal .f32) = if b then (1 : EReal) else 0 := by
  show ((((BitVec.setWidth 32 (BitVec.ofBool (decide b))).toInt : ℝ)) : EReal) = _
  by_cases h : b <;> simp [h]

/-- The count of a row. -/
theorem rowHits_apply (c : FVec Ideal S256x512 .f32) (r : Fin 256) :
    rowHits c (ix2 r 0) = Rounds.hits fun q => c (ix2 r q) := by
  pointwise [rowHits]
  unfold Rounds.hits
  refine Finset.sum_congr rfl fun q _ => ?_
  rw [reach_apply]
  exact bit_number _

/-- A candidate after masking. -/
theorem rowStrike_apply (c : FVec Ideal S256x512 .f32) (r : Fin 256) (q : Fin 512) :
    rowStrike c (ix2 r q) = Rounds.strike (fun q => c (ix2 r q)) q := by
  pointwise [rowStrike]
  rw [reach_apply]
  unfold Rounds.strike
  by_cases h : (Rounds.top fun q => c (ix2 r q)) ≤ c (ix2 r q)
  · rw [if_pos h, decide_eq_true h]; rfl
  · rw [if_neg h, decide_eq_false h]; rfl

/-- The removed sum after a round. -/
theorem rowGain_apply (c : FVec Ideal S256x512 .f32) (a k : FVec Ideal S256x1 .f32) (r : Fin 256) :
    rowGain c a k (ix2 r 0) = Rounds.gain (fun q => c (ix2 r q)) (a (ix2 r 0)) (k (ix2 r 0)) := by
  pointwise [rowGain]
  rw [rowHits_apply, rowTop_apply]
  rfl

/-- The rounds over a row block are, row by row, the rounds over the row's candidates. -/
theorem rows_apply (c : FVec Ideal S256x512 .f32) (r : Fin 256) (n : ℕ) :
    (∀ q, (rows c n).1 (ix2 r q) = (Rounds.state (fun q => c (ix2 r q)) n).1 q)
      ∧ (rows c n).2.1 (ix2 r 0) = (Rounds.state (fun q => c (ix2 r q)) n).2.1
      ∧ (rows c n).2.2 (ix2 r 0) = (Rounds.state (fun q => c (ix2 r q)) n).2.2 := by
  induction n with
  | zero =>
    refine ⟨fun q => rfl, ?_, ?_⟩
    · exact Ideal.ofBits_zero_f32
    · exact Consts.five
  | succ n ih =>
    obtain ⟨h1, h2, h3⟩ := ih
    have e : (fun q => (rows c n).1 (ix2 r q)) = (Rounds.state (fun q => c (ix2 r q)) n).1 := funext h1
    rw [rows_succ]
    dsimp only [Rounds.state]
    refine ⟨fun q => ?_, ?_, ?_⟩
    · rw [rowStrike_apply, e]
    · rw [rowGain_apply, e, h2, h3]
    · pointwise []
      rw [rowHits_apply, e, h3]

/-- What the kernel carries into the last round is four rounds over the candidates its tracks make. -/
theorem late_eq (w85 w88 w89 w92 w93 w96 w97 w100 w101 w104 w105 w108 w109 w110 w111 : FVec Ideal S256x256 .f32) :
    late w85 w88 w89 w92 w93 w96 w97 w100 w101 w104 w105 w108 w109 w110 w111 = ((rows (k1_pay76 w85 w88 w89 w92 w93 w96 w97 w100 w101 w104 w105 w108 w109 w110 w111) 4).2.1,
      (rows (k1_pay76 w85 w88 w89 w92 w93 w96 w97 w100 w101 w104 w105 w108 w109 w110 w111) 4).2.2, rowTop (rows (k1_pay76 w85 w88 w89 w92 w93 w96 w97 w100 w101 w104 w105 w108 w109 w110 w111) 4).1,
      extui 32 (reach (rows (k1_pay76 w85 w88 w89 w92 w93 w96 w97 w100 w101 w104 w105 w108 w109 w110 w111) 4).1) natLt_1_32) := by
  generalize hc : k1_pay76 w85 w88 w89 w92 w93 w96 w97 w100 w101 w104 w105 w108 w109 w110 w111 = c
  have e78 : k1_pay78 w85 w88 w89 w92 w93 w96 w97 w100 w101 w104 w105 w108 w109 w110 w111 = rowTop c := by rw [← hc]; rfl
  have e79 : k1_pay79 w85 w88 w89 w92 w93 w96 w97 w100 w101 w104 w105 w108 w109 w110 w111 = reach c := by rw [← hc]; rfl
  have e80 : k1_pay80 w85 w88 w89 w92 w93 w96 w97 w100 w101 w104 w105 w108 w109 w110 w111 = rowHits c := by rw [← hc]; rfl
  have e81 : k1_pay81 w85 w88 w89 w92 w93 w96 w97 w100 w101 w104 w105 w108 w109 w110 w111 = (rows c 1).2.1 := by rw [k1_pay81, e80, e78]; rfl
  have e82 : k1_pay82 w85 w88 w89 w92 w93 w96 w97 w100 w101 w104 w105 w108 w109 w110 w111 = (rows c 1).2.2 := by rw [k1_pay82, e80]; rfl
  have e83 : k1_pay83 w85 w88 w89 w92 w93 w96 w97 w100 w101 w104 w105 w108 w109 w110 w111 = (rows c 1).1 := by
    rw [k1_pay83, e79, hc]; rw [show (rows c 1).1 = rowStrike c from rows_cand c 0, rowStrike]
  have e84 : k1_pay84 w85 w88 w89 w92 w93 w96 w97 w100 w101 w104 w105 w108 w109 w110 w111 = rowTop (rows c 1).1 := by rw [k1_pay84, e83]; rfl
  have e85 : k1_pay85 w85 w88 w89 w92 w93 w96 w97 w100 w101 w104 w105 w108 w109 w110 w111 = reach (rows c 1).1 := by rw [k1_pay85, e83, e84]; rfl
  have e86 : shapeCast S256x1 (k1_pay86 w85 w88 w89 w92 w93 w96 w97 w100 w101 w104 w105 w108 w109 w110 w111) shapeCasts_S256_S256x1 = rowHits (rows c 1).1 := by rw [k1_pay86, e85]; rfl
  unfold late
  rw [e81, e82, e83, e84, e85]
  have f87 : k1_pay87 (k1_pay86 w85 w88 w89 w92 w93 w96 w97 w100 w101 w104 w105 w108 w109 w110 w111) = rowHits (rows c 1).1 := e86
  have f88 : k1_pay88 (rows c 1).2.2 (k1_pay86 w85 w88 w89 w92 w93 w96 w97 w100 w101 w104 w105 w108 w109 w110 w111) = (rows c 2).2.2 := by rw [k1_pay88, f87]; rfl
  have f89 : k1_pay89 (rows c 1).1 (reach (rows c 1).1) = (rows c 2).1 := by
    rw [k1_pay89, show (rows c 2).1 = rowStrike (rows c 1).1 from rows_cand c 1, rowStrike]
  have f90 : k1_pay90 (rows c 1).1 (reach (rows c 1).1) = rowTop (rows c 2).1 := by rw [k1_pay90, f89]; rfl
  have f91 : k1_pay91 (rows c 1).1 (reach (rows c 1).1) = reach (rows c 2).1 := by rw [k1_pay91, f90, f89]; rfl
  have f92 : k1_pay92 (rows c 1).1 (reach (rows c 1).1) = rowHits (rows c 2).1 := by rw [k1_pay92, f91]; rfl
  have f93 : k1_pay93 (rows c 1).2.2 (rows c 1).1 (reach (rows c 1).1) (k1_pay86 w85 w88 w89 w92 w93 w96 w97 w100 w101 w104 w105 w108 w109 w110 w111) = (rows c 3).2.2 := by
    rw [k1_pay93, f88, f92]; rfl
  have f94 : k1_pay94 (rows c 1).1 (reach (rows c 1).1) = (rows c 3).1 := by
    rw [k1_pay94, f91, f89]; rw [show (rows c 3).1 = rowStrike (rows c 2).1 from rows_cand c 2, rowStrike]
  have f95 : k1_pay95 (rows c 1).1 (reach (rows c 1).1) = rowTop (rows c 3).1 := by rw [k1_pay95, f94]; rfl
  have f96 : k1_pay96 (rows c 1).1 (reach (rows c 1).1) = reach (rows c 3).1 := by rw [k1_pay96, f95, f94]; rfl
  have f97 : k1_pay97 (rows c 1).1 (reach (rows c 1).1) = rowHits (rows c 3).1 := by rw [k1_pay97, f96]; rfl
  have f98 : k1_pay98 (rows c 1).2.1 (rows c 1).2.2 (rows c 1).1 (rowTop (rows c 1).1) (reach (rows c 1).1) (k1_pay86 w85 w88 w89 w92 w93 w96 w97 w100 w101 w104 w105 w108 w109 w110 w111)
      = (rows c 4).2.1 := by
    rw [k1_pay98, f87, f88, f90, f92, f93, f95, f97]; rfl
  have f99 : k1_pay99 (rows c 1).2.2 (rows c 1).1 (reach (rows c 1).1) (k1_pay86 w85 w88 w89 w92 w93 w96 w97 w100 w101 w104 w105 w108 w109 w110 w111) = (rows c 4).2.2 := by
    rw [k1_pay99, f93, f97]; rfl
  have f100 : k1_pay100 (rows c 1).1 (reach (rows c 1).1) = (rows c 4).1 := by
    rw [k1_pay100, f96, f94]; rw [show (rows c 4).1 = rowStrike (rows c 3).1 from rows_cand c 3, rowStrike]
  have f101 : k1_pay101 (rows c 1).1 (reach (rows c 1).1) = rowTop (rows c 4).1 := by rw [k1_pay101, f100]; rfl
  have f102 : k1_pay102 (rows c 1).1 (reach (rows c 1).1) = extui 32 (reach (rows c 4).1) natLt_1_32 := by
    rw [k1_pay102, f101, f100]; rfl
  rw [f98, f99, f101, f102]

variable (i : grid1.Coords) (v0 : Vec Ideal S256x128 .f32) (v2 : Vec Ideal S128x8192 .f32)

/-- The same of a row block's candidates. -/
theorem lateOf_eq : lateOf i v0 v2 =
    ((rows (cand i v0 v2) 4).2.1, (rows (cand i v0 v2) 4).2.2, rowTop (rows (cand i v0 v2) 4).1,
      extui 32 (reach (rows (cand i v0 v2) 4).1) natLt_1_32) :=
  late_eq _ _ _ _ _ _ _ _ _ _ _ _ _ _ _

end Cert.KernelIdeal.Value

end
-- ==== Proof.PointK.lean ====
module

public import proofs.«01_k».proof.Proof.RoundsK

@[expose] public section

set_option maxRecDepth 65536

noncomputable section

open Idealize.ShloMosaic Idealize.ShloMosaic.TcCoe Idealize.SL.Sem

/-! What one grid point of the loss kernel adds to the output. -/

namespace Cert.KernelIdeal.Value

open Cert.KernelIdeal Cert.KernelIdeal.Gen

/-- A row's loss from its masked similarities, its candidates and the product of its positive pair. -/
def rowTerm (s : Fin 8192 → EReal) (g : Fin 512 → EReal) (d : EReal) : EReal :=
  0 - Ideal.log (Ideal.div (Ideal.exp (d * (Consts.rate : EReal)))
    ((∑ c, Ideal.exp (s c) - (Rounds.state g 5).2.1) + Ideal.exp (d * (Consts.rate : EReal))))

/-- The named constant of the kernel is the rate. -/
theorem inverse_temperature : (Named.named κ "inv_temperature" 0x41A00000#32 : Ideal .f32) = (Consts.rate : EReal) := rfl

variable (i : grid1.Coords) (v0 : Vec Ideal S256x128 .f32) (v2 : Vec Ideal S128x8192 .f32)

/-- The masked similarities of a row block: the block's own diagonal is struck out. -/
theorem sims_apply (r : Fin 256) (c : Fin 8192) :
    k1_pay1 i v0 v2 (ix2 r c) = if c.val = r.val + 256 * (i 0).val then ⊥ else ∑ k : Fin 128, v0 (ix2 r k) * v2 (ix2 k c) := by
  pointwise [k1_pay1]
  have hi : (i 0).val < 32 := (i 0).isLt
  have hr := r.isLt
  have hc := c.isLt
  have hb : IntOp.cmpi CmpIPredicate.eq (BitVec.ofNat 32 c.val)
      (IntOp.addi (BitVec.ofNat 32 r.val) (Scalar.muli (BitVec.ofNat 32 (i 0).val) 256#32))
      = BitVec.ofBool (decide (c.val = r.val + 256 * (i 0).val)) := by
    have e : IntOp.addi (BitVec.ofNat 32 r.val) (Scalar.muli (BitVec.ofNat 32 (i 0).val) 256#32)
        = BitVec.ofNat 32 (r.val + 256 * (i 0).val) := by
      show BitVec.ofNat 32 r.val + BitVec.ofNat 32 (i 0).val * BitVec.ofNat 32 256 = _
      rw [← BitVec.ofNat_mul, ← BitVec.ofNat_add, Nat.mul_comm]
    rw [e]
    show BitVec.ofBool (BitVec.ofNat 32 c.val == BitVec.ofNat 32 (r.val + 256 * (i 0).val)) = _
    congr 1
    rw [Bool.eq_iff_iff, beq_iff_eq, decide_eq_true_iff]
    constructor
    · intro h
      have h := congrArg BitVec.toNat h
      rw [BitVec.toNat_ofNat, BitVec.toNat_ofNat, Nat.mod_eq_of_lt (by omega), Nat.mod_eq_of_lt (by omega)] at h
      exact h
    · intro h
      rw [h]
  rw [hb]
  by_cases h : c.val = r.val + 256 * (i 0).val
  · rw [if_pos h, decide_eq_true h]; rfl
  · rw [if_neg h, decide_eq_false h]; rfl

/-- The removed sum of a row after the last round, as the kernel writes it. -/
theorem removed_apply (g : FVec Ideal S256x512 .f32) (r : Fin 256) :
    (rows g 4).2.1 (ix2 r 0) + min (∑ q, FloatOps.sitofp FTy.f32 (BitVec.setWidth 32 (reach (rows g 4).1 (ix2 r q))))
        (max 0 ((rows g 4).2.2 (ix2 r 0))) * Ideal.exp (rowTop (rows g 4).1 (ix2 r 0))
      = (Rounds.state (fun q => g (ix2 r q)) 5).2.1 := by
  obtain ⟨h1, h2, h3⟩ := rows_apply g r 4
  have e : (fun q => (rows g 4).1 (ix2 r q)) = (Rounds.state (fun q => g (ix2 r q)) 4).1 := funext h1
  have eh : ∑ q, (FloatOps.sitofp FTy.f32 (BitVec.setWidth 32 (reach (rows g 4).1 (ix2 r q))) : Ideal .f32)
      = Rounds.hits (Rounds.state (fun q => g (ix2 r q)) 4).1 := by
    rw [← e]
    unfold Rounds.hits
    refine Finset.sum_congr rfl fun q _ => ?_
    rw [reach_apply]
    exact bit_number _
  rw [rowTop_apply, e, h2, h3]
  rw [Rounds.state_succ_gain _ 4]
  unfold Rounds.gain
  rw [← eh]

/-- What a point leaves in the output block. -/
theorem point_apply (f1 f2 : Vec Ideal S256x128 .f32) (acc : Vec Ideal S1x1 .f32) :
    point i v0 v2 f1 f2 acc (ix2 0 0) = acc (ix2 0 0) +
      (∑ r : Fin 256, rowTerm (fun c => k1_pay1 i v0 v2 (ix2 r c)) (fun q => cand i v0 v2 (ix2 r q))
        (∑ k : Fin 128, f1 (ix2 r k) * f2 (ix2 r k))) * ((1 / 8192 : ℝ) : EReal) := by
  unfold point
  rw [lateOf_eq]
  generalize k1_pay1 i v0 v2 = s
  generalize cand i v0 v2 = g
  pointwise [k1_pay104]
  simp only [Finset.univ_unique, Finset.sum_singleton]
  rw [Consts.share, inverse_temperature]
  refine congrArg (fun z : EReal => acc (ix2 0 0) + z * ((1 / 8192 : ℝ) : EReal)) (Finset.sum_congr rfl fun r _ => ?_)
  rw [removed_apply g r]
  rfl

end Cert.KernelIdeal.Value

end
-- ==== Proof.TopK.lean ====
module

public import Idealize.ShloMosaic.Lib.Pointwise
public import Idealize.ShloMosaic.Lib.SortFacts
public import Idealize.ShloMosaic.PureOps.Ideal.Laws
public import proofs.«01_k».proof.Proof.Gen.ReferenceIdeal.Read

@[expose] public section

noncomputable section

open Idealize.ShloMosaic

/-! The positions a top-k takes along a row. -/

namespace Picks

/-- The position along a row that the stable sort by "greater first" puts at rank `j`. -/
def pick {C : ℕ} (x : Fin C → EReal) (j : Fin C) : Fin C :=
  sortedFrom (fun a b => (FloatOps.cmpfTotal (F := Ideal) (φ := .f32) .gt (x a) (x b) : BitVec 1) == 1#1) j

/-- The comparison is the extended reals' order. -/
theorem gt_iff (a b : EReal) :
    ((FloatOps.cmpfTotal (F := Ideal) (φ := .f32) .gt a b : BitVec 1) == 1#1) = decide (b < a) := by
  rw [Ideal.cmpfTotal_def]
  by_cases h : b < a <;> simp [Ideal.cmp, CmpDirection.ordered, h]

/-- Different ranks take different positions. -/
theorem pick_injective {C : ℕ} (x : Fin C → EReal) : Function.Injective (pick x) := sortedFrom_injective _

/-- Every position has a rank. -/
theorem pick_surjective {C : ℕ} (x : Fin C → EReal) : Function.Surjective (pick x) := sortedFrom_surjective _

/-- A later rank holds nothing greater. -/
theorem pick_anti {C : ℕ} (x : Fin C → EReal) (i j : Fin C) (h : i ≤ j) : x (pick x j) ≤ x (pick x i) := by
  rcases h.eq_or_lt with rfl | h
  · exact le_rfl
  have e : (fun a b => (FloatOps.cmpfTotal (F := Ideal) (φ := .f32) .gt (x a) (x b) : BitVec 1) == 1#1)
      = fun a b : Fin C => decide (x b < x a) := funext fun a => funext fun b => gt_iff _ _
  have := sortedFrom_noInversion (fun a b : Fin C => decide (x b < x a)) (fun a b : Fin C => decide (x b < x a))
    (fun a b h => by simp only [decide_eq_true_eq, decide_eq_false_iff_not, not_lt] at h ⊢; exact h.le)
    (fun a b h => h)
    (fun a b c h k => by simp only [decide_eq_false_iff_not, not_lt] at h k ⊢; exact h.trans k) i j h
  unfold pick
  rw [e]
  simpa using this

/-- A top-k of the rows of a matrix: the index word at rank `j` of row `r` is the position of that rank. -/
theorem topK_index {R C K : ℕ} (x : FVec Ideal ⟨2, ![R, C]⟩ .f32)
    (h : (⟨2, ![R, C]⟩ : Shape).Slices (fun _ => 0) ⟨2, ![R, K]⟩) (r : Fin R) (j : Fin K) (hj : j.val < C) :
    (Host.topK ⟨2, ![R, K]⟩ 1 (FloatOps.cmpfTotal .gt) x h).2 (ix2 r j)
      = BitVec.ofNat 32 (pick (fun c => x (ix2 r c)) ⟨j.val, hj⟩).val := by
  have d1 : 1 < (⟨2, ![R, C]⟩ : Shape).rank := Nat.lt_succ_self 1
  unfold Host.topK
  dsimp only
  rw [extractStridedSlice_apply (t := ⟨2, ![R, K]⟩) (fun _ => 0) _ h (ix2 r j) (ix2 r ⟨j.val, hj⟩)
    (fun a => match a with | ⟨0, _⟩ => by show r.val = 0 + r.val; omega | ⟨1, _⟩ => by show j.val = 0 + j.val; omega)]
  unfold Host.sort2
  dsimp only
  rw [dif_pos d1]
  dsimp only
  rw [dif_pos d1]
  have along : ∀ k : Fin C, (ix2 r (⟨j.val, hj⟩ : Fin C) : (⟨2, ![R, C]⟩ : Shape).Idx).along ⟨1, d1⟩ k = ix2 r k := by
    intro k
    funext a
    unfold Shape.Idx.along
    match a with
    | ⟨0, _⟩ => exact Function.update_of_ne (fun e => absurd (congrArg Fin.val e) Nat.zero_ne_one) _ _
    | ⟨1, _⟩ => exact Function.update_self _ _ _
  refine (congrArg (fun i : (⟨2, ![R, C]⟩ : Shape).Idx => BitVec.ofNat 32 (i ⟨1, d1⟩).val) (along _)).trans ?_
  refine congrArg (fun f : Fin C → Fin C → Bool => BitVec.ofNat 32 (sortedFrom f (⟨j.val, hj⟩ : Fin C)).val) (funext fun a => funext fun b => ?_)
  exact congrArg₂ (fun u v => (FloatOps.cmpfTotal (F := Ideal) (φ := .f32) .gt (x u) (x v) : BitVec 1) == 1#1) (along a) (along b)

end Picks

end
-- ==== Proof.RefRead.lean ====
module

public import proofs.«01_k».proof.Proof.TopK
public import proofs.«01_k».proof.Proof.Consts
public import proofs.«01_k».proof.Proof.Gen.ReferenceIdeal.Read
public import Idealize.ShloMosaic.Lib.Routing.OpsPair
public import Idealize.ShloMosaic.Lib.Routing.OpsSet
public import Idealize.ShloMosaic.Lib.WordCmp
public import Idealize.ShloMosaic.Lib.Tactic

@[expose] public section

set_option maxRecDepth 65536

noncomputable section

open Idealize.ShloMosaic Idealize.ShloMosaic.TcCoe

/-! What the reference computes, read at an index. -/

namespace Cert.ReferenceIdeal.Read

open Cert.ReferenceIdeal Cert.ReferenceIdeal.Gen Picks

/-- A feature array. -/
abbrev Arr := FVec Ideal S4096x128 .f32

/-- The similarity of rows `r` and `c`: the inner product of their normalised features. -/
theorem sim_apply (x0 x1 : Arr) (r c : Fin 8192) :
    val_main_v7 (F := Ideal) x0 x1 (ix2 r c)
      = ∑ k : Fin 128, val_main_v5 (F := Ideal) x0 x1 (ix2 r k) * val_main_v5 (F := Ideal) x0 x1 (ix2 c k) := by
  rw [val_main_v7_apply]
  simp only [val_main_v6_apply]
  have e1 : ∀ k : Fin 128, lidx_main_v7 (ix2 r c) k = ix2 r k := fun k => funext fun a => match a with | ⟨0, _⟩ => rfl | ⟨1, _⟩ => rfl
  have e2 : ∀ k : Fin 128, idx_main_v6 (ridx_main_v7 (ix2 r c) k) = ix2 c k := fun k => funext fun a => match a with | ⟨0, _⟩ => rfl | ⟨1, _⟩ => rfl
  simp only [e1, e2]

/-- The ranked positions of a row. -/
theorem indices_apply (x0 x1 : Arr) (r : Fin 8192) (j : Fin 6) :
    val_main_indices (F := Ideal) x0 x1 (ix2 r j)
      = BitVec.ofNat 32 (pick (fun c => val_main_v7 (F := Ideal) x0 x1 (ix2 r c)) ⟨j.val, by omega⟩).val :=
  topK_index (val_main_v7 (F := Ideal) x0 x1) _ r j (by omega)

/-- The neighbour of rank `j + 1`, as the scatter reads it: the wrap of a negative word does nothing. -/
theorem column_apply (x0 x1 : Arr) (r : Fin 8192) (j : Fin 5) :
    (val_main_v39 (F := Ideal) x0 x1 (ix3 r j 1)).toInt
      = (pick (fun c => val_main_v7 (F := Ideal) x0 x1 (ix2 r c)) ⟨1 + j.val, by omega⟩).val := by
  have e : val_main_v39 (F := Ideal) x0 x1 (ix3 r j 1) = val_main_v38 (F := Ideal) x0 x1 (ix3 r j 0) := by
    unfold val_main_v39
    generalize val_main_v38 (F := Ideal) x0 x1 = y
    generalize val_main_v37 (F := Ideal) = z
    pointwise
  rw [e, val_main_v38_apply, val_main_v35_apply, val_main_v32_apply, val_main_v31_apply, val_main_c_6_apply, val_main_v8_apply]
  have ei : idx_main_v8 (idx_main_v38 (ix3 r j 0)) = ix2 r ⟨1 + j.val, by omega⟩ := funext fun a => match a with | ⟨0, _⟩ => rfl | ⟨1, _⟩ => rfl
  rw [ei, indices_apply]
  have hp := (pick (fun c => val_main_v7 (F := Ideal) x0 x1 (ix2 r c)) ⟨1 + j.val, by omega⟩).isLt
  have hn : (BitVec.ofNat 32 (pick (fun c => val_main_v7 (F := Ideal) x0 x1 (ix2 r c)) ⟨1 + j.val, by omega⟩).val).toNat
      = (pick (fun c => val_main_v7 (F := Ideal) x0 x1 (ix2 r c)) ⟨1 + j.val, by omega⟩).val := by
    rw [BitVec.toNat_ofNat, Nat.mod_eq_of_lt (by omega)]
  rw [Routing.wrap_of_lt _ _ (by rw [hn]; omega), WordCmp.toInt_eq_toNat_of_lt_half (by rw [hn]; omega), hn]

/-- The row a scatter update goes to. -/
theorem row_apply (x0 x1 : Arr) (r : Fin 8192) (j : Fin 5) :
    (val_main_v39 (F := Ideal) x0 x1 (ix3 r j 0)).toInt = r.val := by
  have e : val_main_v39 (F := Ideal) x0 x1 (ix3 r j 0) = val_main_v37 (F := Ideal) (ix3 r j 0) := by
    unfold val_main_v39
    generalize val_main_v38 (F := Ideal) x0 x1 = y
    generalize val_main_v37 (F := Ideal) = z
    pointwise
  have hr := r.isLt
  rw [e, val_main_v37_apply, val_main_v36_apply, val_main_v30_apply, val_main_v27_apply, val_main_v26_apply, val_main_c_4_apply,
    val_main_v25_apply, val_main_v24_apply]
  have hn : (BitVec.ofNat 32 ((idx_main_v25 (idx_main_v36 (idx_main_v37 (ix3 r j 0)))) 0).val).toNat = r.val := by
    show (BitVec.ofNat 32 r.val).toNat = r.val
    rw [BitVec.toNat_ofNat, Nat.mod_eq_of_lt (by omega)]
  rw [Routing.wrap_of_lt _ _ (by rw [hn]; omega), WordCmp.toInt_eq_toNat_of_lt_half (by rw [hn]; omega), hn]

/-- Where the scatter writes: row `r`, at the neighbour of rank `j + 1`. -/
theorem lands (x0 x1 : Arr) (a : Fin 8192) (j : Fin 5) (r c : Fin 8192) :
    scatter_S8192x8192_S8192x5x2_S8192x5_n_01_01_2.resultIdx? (ix2 a j) (val_main_v39 (F := Ideal) x0 x1) = some (ix2 r c)
      ↔ a = r ∧ pick (fun c => val_main_v7 (F := Ideal) x0 x1 (ix2 a c)) ⟨1 + j.val, by omega⟩ = c := by
  refine (Routing.scatter_lands2 _ rfl rfl rfl (val_main_v39 (F := Ideal) x0 x1) a j r c).trans ?_
  have e0 : (val_main_v39 (F := Ideal) x0 x1 (ValueIdx.ix3 a j 0)).toInt = a.val := row_apply x0 x1 a j
  have e1 : (val_main_v39 (F := Ideal) x0 x1 (ValueIdx.ix3 a j 1)).toInt
    = (pick (fun c => val_main_v7 (F := Ideal) x0 x1 (ix2 a c)) ⟨1 + j.val, by omega⟩).val := column_apply x0 x1 a j
  rw [e0, e1, Fin.ext_iff, Fin.ext_iff]
  omega

/-- The masked exponentials: zero on the diagonal. -/
theorem masked_apply (x0 x1 : Arr) (r c : Fin 8192) :
    val_main_v23 (F := Ideal) x0 x1 (ix2 r c)
      = if r = c then 0 else Ideal.exp (val_main_v7 (F := Ideal) x0 x1 (ix2 r c) * (Consts.rate : EReal)) := by
  rw [val_main_v23_apply, val_main_v22_apply, val_main_v21_apply, val_main_v20_apply, val_main_c_apply, val_main_v18_apply,
    val_main_v19_apply, val_main_call1_v1_apply, val_main_call1_v0_apply, val_main_cst_3_apply, val_main_v17_apply, val_main_v16_apply,
    val_main_v15_apply, val_main_cst_2_apply]
  have hr := r.isLt
  have hc := c.isLt
  have hb : IntOp.cmpi .eq (IntOp.addi (BitVec.ofNat 32 ((ix2 r c : S8192x8192.Idx) 0).val) 0#32) (BitVec.ofNat 32 ((ix2 r c : S8192x8192.Idx) 1).val)
      = BitVec.ofBool (decide (r = c)) := by
    show IntOp.cmpi .eq (BitVec.ofNat 32 r.val + 0#32) (BitVec.ofNat 32 c.val) = _
    rw [BitVec.add_zero, WordCmp.cmpi_eq_eq]
    congr 2
    rw [Fin.ext_iff, eq_iff_iff]
    constructor
    · intro h
      have h := congrArg BitVec.toNat h
      rwa [BitVec.toNat_ofNat, BitVec.toNat_ofNat, Nat.mod_eq_of_lt (by omega), Nat.mod_eq_of_lt (by omega)] at h
    · intro h
      rw [h]
  rw [hb]
  by_cases h : r = c
  · rw [if_pos h, decide_eq_true h]
    show (FloatOps.ofBits .f32 0x00000000#32 : Ideal .f32) = (0 : EReal)
    exact Ideal.ofBits_zero_f32
  · rw [if_neg h, decide_eq_false h]
    exact congrArg Ideal.exp (Consts.over_temperature _)

/-- The sum over the negatives of row `r`: all but the row itself and its five neighbours. -/
theorem negatives_apply (x0 x1 : Arr) (r : Fin 8192) :
    val_main_v42 (F := Ideal) x0 x1 (ix1 r)
      = ∑ c : Fin 8192, if r = c ∨ ∃ j : Fin 5, pick (fun c => val_main_v7 (F := Ideal) x0 x1 (ix2 r c)) ⟨1 + j.val, by omega⟩ = c then 0
          else Ideal.exp (val_main_v7 (F := Ideal) x0 x1 (ix2 r c) * (Consts.rate : EReal)) := by
  rw [val_main_v42_apply, val_main_cst_9_apply, show (FloatOps.ofBits .f32 0x00000000#32 : Ideal .f32) = (0 : EReal) from Ideal.ofBits_zero_f32, zero_add]
  refine Finset.sum_congr rfl fun c _ => ?_
  have ei : idx_main_v42 (ix1 r) c = ix2 r c := funext fun a => match a with | ⟨0, _⟩ => rfl | ⟨1, _⟩ => rfl
  rw [ei]
  unfold val_main_v41
  by_cases h : ∃ j : Fin 5, pick (fun c => val_main_v7 (F := Ideal) x0 x1 (ix2 r c)) ⟨1 + j.val, by omega⟩ = c
  · obtain ⟨j, hj⟩ := h
    rw [if_pos (Or.inr ⟨j, hj⟩)]
    refine Routing.scatter_set_hit _ _ _ _ _ 0 (fun k _ => ?_) (ix2 r j) ((lands x0 x1 r j r c).2 ⟨rfl, hj⟩)
    rw [val_main_v40_apply, val_main_cst_8_apply]
    exact Ideal.ofBits_zero_f32
  · rw [Routing.scatter_set_miss _ _ _ _ _ (fun k hk => by
      rw [eq_ix2 (n0 := 8192) (n1 := 5) k] at hk
      obtain ⟨h0, h1⟩ := (lands x0 x1 _ _ r c).1 hk
      rw [h0] at h1
      exact h ⟨_, h1⟩), masked_apply]
    by_cases hrc : r = c
    · rw [if_pos hrc, if_pos (Or.inl hrc)]
    · rw [if_neg hrc, if_neg (not_or.2 ⟨hrc, h⟩)]

/-- The positive term of row `r`: the product of the pair that row belongs to. -/
theorem positive_apply (x0 x1 : Arr) (r : Fin 8192) :
    val_main_v14 (F := Ideal) x0 x1 (ix1 r)
      = Ideal.exp ((∑ k : Fin 128, x0 (ix2 ⟨r.val % 4096, Nat.mod_lt _ (by decide)⟩ k) * x1 (ix2 ⟨r.val % 4096, Nat.mod_lt _ (by decide)⟩ k))
          * (Consts.rate : EReal)) := by
  have e : val_main_v14 (F := Ideal) x0 x1 (ix1 r) = val_main_v13 (F := Ideal) x0 x1 (ix1 ⟨r.val % 4096, Nat.mod_lt _ (by decide)⟩) := by
    unfold val_main_v14
    generalize val_main_v13 (F := Ideal) x0 x1 = y
    pointwise
    have hr := r.isLt
    by_cases h : r.val < 4096
    · rw [dif_pos h]
      exact congrArg (fun q => y (ix1 q)) (Fin.ext (Nat.mod_eq_of_lt h).symm)
    · rw [dif_neg h]
      exact congrArg (fun q => y (ix1 q)) (Fin.ext (show r.val - 4096 = r.val % 4096 by omega))
  rw [e, val_main_v13_apply, val_main_v12_apply, val_main_v11_apply, val_main_v10_apply, val_main_cst_0_apply]
  simp only [val_main_v9_apply]
  rw [show (FloatOps.ofBits .f32 0x00000000#32 : Ideal .f32) = (0 : EReal) from Ideal.ofBits_zero_f32, zero_add]
  have ei : ∀ (q : Fin 4096) (k : Fin 128), idx_main_v10 (ix1 q) k = ix2 q k := fun q k =>
    funext fun a => match a with | ⟨0, _⟩ => rfl | ⟨1, _⟩ => rfl
  simp only [ei]
  exact congrArg Ideal.exp (Consts.over_temperature _)

/-- The loss: the mean of the rows' terms. -/
theorem loss_apply (x0 x1 : Arr) :
    val_main_v49 (F := Ideal) x0 x1 (ix2 0 0)
      = Ideal.div (∑ r : Fin 8192, -Ideal.log (Ideal.div (val_main_v14 (F := Ideal) x0 x1 (ix1 r))
          (val_main_v42 (F := Ideal) x0 x1 (ix1 r) + val_main_v14 (F := Ideal) x0 x1 (ix1 r)))) ((8192 : ℝ) : EReal) := by
  show FloatOps.hostDivf (val_main_v47 (F := Ideal) x0 x1 _) (Ideal.ofBits .f32 0x46000000#32) = _
  rw [val_main_v47_apply, Consts.rows]
  refine congrArg (fun z => Ideal.div z ((8192 : ℝ) : EReal)) ?_
  refine (congrArg (fun z : EReal => z + _) (show (FloatOps.ofBits .f32 0x00000000#32 : Ideal .f32) = (0 : EReal) from Ideal.ofBits_zero_f32)).trans ?_
  rw [zero_add]
  refine Fintype.sum_equiv ⟨fun j => j 0, fun r => ix1 r, fun j => funext fun a => match a with | ⟨0, _⟩ => rfl, fun r => rfl⟩ _ _ fun j => ?_
  have ej : j = ix1 (j 0) := funext fun a => match a with | ⟨0, _⟩ => rfl
  rw [ej]
  rfl

end Cert.ReferenceIdeal.Read

end
-- ==== Proof.Units.lean ====
module

public import proofs.«01_k».proof.Proof.Vocab
public import proofs.«01_k».proof.Proof.RefRead
public import Idealize.ShloMosaic.Lib.Pointwise

@[expose] public section

set_option maxRecDepth 65536

noncomputable section

open Idealize.ShloMosaic Idealize.ShloMosaic.TcCoe

/-! The normalised features: the same in the kernel and in the reference, and real numbers whatever the arguments. -/

namespace Units

/-- An entry over its row's guarded norm. -/
def unit {n : ℕ} (y : Fin n → EReal) (k : Fin n) : EReal :=
  Ideal.div (y k) (max (Ideal.sqrt (∑ j, y j * y j)) (Ideal.ofBits .f32 0x322BCC77#32))

/-- A square is not negative. -/
theorem square_nonneg (y : EReal) : 0 ≤ y * y := by
  rcases le_total 0 y with h | h
  · exact mul_nonneg h h
  · have e : y * y = (-y) * (-y) := by rw [neg_mul_neg]
    have h' : 0 ≤ -y := EReal.neg_nonneg.2 h
    rw [e]
    exact mul_nonneg h' h'

/-- A row over its guarded norm is made of real numbers. -/
theorem unit_real {n : ℕ} (y : Fin n → EReal) (k : Fin n) : ∃ t : ℝ, unit y k = (t : EReal) := by
  obtain ⟨e, he, hg⟩ := Consts.guard_pos
  unfold unit
  rw [hg]
  generalize hS : ∑ j, y j * y j = S
  have hk : y k * y k ≤ S := hS ▸ Finset.single_le_sum (f := fun j => y j * y j) (fun j _ => square_nonneg (y j)) (Finset.mem_univ k)
  -- the norm with its guard is the top or a positive number
  have hd : max (Ideal.sqrt S) (e : EReal) = ⊤ ∨ ∃ d : ℝ, d ≠ 0 ∧ max (Ideal.sqrt S) (e : EReal) = (d : EReal) := by
    have hpos : (0 : EReal) < max (Ideal.sqrt S) (e : EReal) := lt_of_lt_of_le (EReal.coe_pos.2 he) (le_max_right _ _)
    generalize max (Ideal.sqrt S) (e : EReal) = d at hpos
    induction d with
    | bot => exact absurd hpos (by simp)
    | top => exact Or.inl rfl
    | coe d => exact Or.inr ⟨d, fun h => by rw [h] at hpos; exact lt_irrefl _ hpos, rfl⟩
  rcases hd with hd | ⟨d, hd0, hd⟩
  · rw [hd]
    refine ⟨0, ?_⟩
    unfold Ideal.div
    rw [if_neg (by simp)]
    simp
  · have hT : S ≠ ⊤ := by
      intro h
      rw [h] at hd
      have : max (Ideal.sqrt ⊤) (e : EReal) = ⊤ := by
        show max (⊤ : EReal) _ = ⊤
        simp
      rw [this] at hd
      exact absurd hd (by simp)
    rw [hd, Ideal.div_coe hd0]
    generalize hy : y k = z at hk
    induction z with
    | bot => exact absurd (top_le_iff.1 (show (⊤ : EReal) ≤ S by simpa using hk)) hT
    | top => exact absurd (top_le_iff.1 (show (⊤ : EReal) ≤ S by simpa using hk)) hT
    | coe z => exact ⟨z * (1 / d), by rw [EReal.coe_mul]⟩

/-- The kernel's normalised features. -/
theorem kernel_feats (v : Vec Ideal Cert.KernelIdeal.S8192x128 .f32) (r : Fin 8192) (k : Fin 128) :
    Cert.KernelIdeal.Gen.k0_pay1 v (ix2 r k) = unit (fun j : Fin 128 => v (ix2 r j)) k := by
  pointwise [Cert.KernelIdeal.Gen.k0_pay1]
  rfl

/-- The kernel's scaled transpose. -/
theorem kernel_featsT (v : Vec Ideal Cert.KernelIdeal.S8192x128 .f32) (k : Fin 128) (c : Fin 8192) :
    Cert.KernelIdeal.Gen.k0_pay2 v (ix2 k c) = Cert.KernelIdeal.Gen.k0_pay1 v (ix2 c k) * (Consts.rate : EReal) := by
  unfold Cert.KernelIdeal.Gen.k0_pay2
  generalize Cert.KernelIdeal.Gen.k0_pay1 v = y
  pointwise
  rfl

open Cert.ReferenceIdeal.Read in
/-- The reference's normalised features. -/
theorem reference_feats (x0 x1 : Arr) (r : Fin 8192) (k : Fin 128) :
    val_main_v5 (F := Ideal) x0 x1 (ix2 r k) = unit (fun j : Fin 128 => val_main_v0 (F := Ideal) x0 x1 (ix2 r j)) k := by
  rw [val_main_v5_apply, val_main_v4_apply, val_main_v3_apply, val_main_v2_apply, val_main_v1_apply, val_main_call0_v2_apply,
    val_main_call0_v1_apply]
  simp only [val_main_call0_v0_apply]
  rw [show val_main_call0_cst (F := Ideal) _ = (0 : EReal) from Ideal.ofBits_zero_f32, zero_add]
  have ei : ∀ j : Fin 128, idx_main_call0_v1 (idx_main_call0_v2 (idx_main_v4 (ix2 r k))) j = ix2 r j := fun j =>
    funext fun a => match a with | ⟨0, _⟩ => rfl | ⟨1, _⟩ => rfl
  simp only [ei]
  rfl

end Units

end
-- ==== Proof.Negatives.lean ====
module

public import proofs.«01_k».proof.Proof.TopTwo
public import proofs.«01_k».proof.Proof.TopK
public import proofs.«01_k».proof.Proof.Consts

@[expose] public section

noncomputable section

open Idealize.ShloMosaic

/-! The sum over a row's negatives: all exponentials less those of the five leading ones is the sum over the rest. -/

namespace Negatives

open Picks

variable (s : Fin 8192 → ℝ) (r : Fin 8192)

/-- The similarities of a row, as the reference ranks them. -/
abbrev ranked : Fin 8192 → EReal := fun c => (s c : EReal)

/-- The scaled similarities of a row, the row itself struck out. -/
def masked (c : Fin 8192) : EReal := if c = r then ⊥ else ((s c * Consts.rate : ℝ) : EReal)

/-- The neighbour of rank `a + 1`. -/
def near (a : ℕ) : Fin 8192 := pick (ranked s) ⟨(a + 1) % 8192, Nat.mod_lt _ (by decide)⟩

/-- That neighbour among the first five. -/
theorem near_of_lt (a : ℕ) (h : a < 5) : near s a = pick (ranked s) ⟨1 + a, by omega⟩ := by
  unfold near
  congr 1
  exact Fin.ext (show (a + 1) % 8192 = 1 + a by omega)

/-- Different ranks hold different neighbours. -/
theorem near_injective (a b : ℕ) (ha : a < 5) (hb : b < 5) (h : near s a = near s b) : a = b := by
  rw [near_of_lt s a ha, near_of_lt s b hb] at h
  have h := congrArg Fin.val (pick_injective _ h)
  dsimp only at h
  omega

variable (self : pick (ranked s) ⟨0, by decide⟩ = r)

include self in
/-- No neighbour is the row itself. -/
theorem near_ne (a : ℕ) (ha : a < 5) : near s a ≠ r := by
  intro h
  rw [near_of_lt s a ha] at h
  have h := congrArg Fin.val (pick_injective _ (h.trans self.symm))
  dsimp only at h
  omega

include self in
/-- The five neighbours lead the row. -/
theorem lead : Rounds.Lead (masked s r) (fun a => s (near s a) * Consts.rate) (near s) where
  inj := near_injective s
  val a ha := if_neg (near_ne s r self a ha)
  anti a b hab hb := by
    have h := pick_anti (ranked s) ⟨1 + a, by omega⟩ ⟨1 + b, by omega⟩ (by rw [Fin.mk_le_mk]; omega)
    rw [← near_of_lt s a (by omega), ← near_of_lt s b hb] at h
    exact mul_le_mul_of_nonneg_right (EReal.coe_le_coe_iff.1 h) Consts.rate_pos.le
  rest i hi := by
    unfold masked
    by_cases h : i = r
    · rw [if_pos h]; exact bot_le
    · rw [if_neg h]
      obtain ⟨j, rfl⟩ := pick_surjective (ranked s) i
      have hj : 5 ≤ j.val := by
        by_contra hj
        by_cases h0 : j.val = 0
        · exact h ((congrArg (pick (ranked s)) (Fin.ext h0)).trans self)
        · refine hi (j.val - 1) (by omega) ?_
          rw [near_of_lt s _ (by omega)]
          exact congrArg (pick (ranked s)) (Fin.ext (show 1 + (j.val - 1) = j.val by omega))
      have h5 := pick_anti (ranked s) ⟨1 + 4, by omega⟩ j (by rw [Fin.le_def]; exact hj)
      rw [← near_of_lt s 4 (by omega)] at h5
      exact EReal.coe_le_coe_iff.2 (mul_le_mul_of_nonneg_right (EReal.coe_le_coe_iff.1 h5) Consts.rate_pos.le)

/-- The exponential of a scaled similarity, none for the row itself. -/
def weight (c : Fin 8192) : ℝ := if c = r then 0 else Real.exp (s c * Consts.rate)

/-- The exponential of a masked entry is that weight. -/
theorem exp_masked (c : Fin 8192) : Ideal.exp (masked s r c) = (weight s r c : EReal) := by
  unfold masked weight
  by_cases h : c = r
  · rw [if_pos h, if_pos h]; rfl
  · rw [if_neg h, if_neg h]; rfl

/-- A finite sum of real numbers, taken among the extended reals. -/
theorem coe_sum {α : Type} (t : Finset α) (f : α → ℝ) : ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

include self in
/-- All less the five leading exponentials is the sum over the others. -/
theorem left_over : (∑ c, Ideal.exp (masked s r c)) - ((∑ a ∈ Finset.range 5, Real.exp (s (near s a) * Consts.rate) : ℝ) : EReal)
    = ∑ c : Fin 8192, if r = c ∨ ∃ j : Fin 5, pick (ranked s) ⟨1 + j.val, by omega⟩ = c then (0 : EReal)
        else Ideal.exp (ranked s c * (Consts.rate : EReal)) := by
  classical
  have e1 : ∑ c, Ideal.exp (masked s r c) = ((∑ c, weight s r c : ℝ) : EReal) := by
    rw [coe_sum]
    exact Finset.sum_congr rfl fun c _ => exp_masked s r c
  have inj : Set.InjOn (near s) (Finset.range 5 : Set ℕ) := fun a ha b hb h =>
    near_injective s a b (Finset.mem_range.1 ha) (Finset.mem_range.1 hb) h
  have e2 : ∑ a ∈ Finset.range 5, Real.exp (s (near s a) * Consts.rate) = ∑ c ∈ (Finset.range 5).image (near s), weight s r c := by
    rw [Finset.sum_image inj]
    exact Finset.sum_congr rfl fun a ha => (if_neg (near_ne s r self a (Finset.mem_range.1 ha))).symm
  have e3 : ∀ c : Fin 8192, (if r = c ∨ ∃ j : Fin 5, pick (ranked s) ⟨1 + j.val, by omega⟩ = c then (0 : EReal)
        else Ideal.exp (ranked s c * (Consts.rate : EReal)))
      = ((if c ∈ (Finset.range 5).image (near s) then 0 else weight s r c : ℝ) : EReal) := by
    intro c
    have hm : c ∈ (Finset.range 5).image (near s) ↔ ∃ j : Fin 5, pick (ranked s) ⟨1 + j.val, by omega⟩ = c := by
      rw [Finset.mem_image]
      constructor
      · rintro ⟨a, ha, h⟩
        have ha := Finset.mem_range.1 ha
        exact ⟨⟨a, ha⟩, (near_of_lt s a ha).symm.trans h⟩
      · rintro ⟨j, h⟩
        exact ⟨j.val, Finset.mem_range.2 j.isLt, (near_of_lt s j.val j.isLt).trans h⟩
    by_cases h1 : ∃ j : Fin 5, pick (ranked s) ⟨1 + j.val, by omega⟩ = c
    · rw [if_pos (Or.inr h1), if_pos (hm.2 h1)]; rfl
    · rw [if_neg (fun h => h1 (hm.1 h))]
      unfold weight
      by_cases h2 : r = c
      · rw [if_pos (Or.inl h2), if_pos h2.symm]; rfl
      · rw [if_neg (not_or.2 ⟨h2, h1⟩), if_neg (fun h => h2 h.symm)]; rfl
  rw [e1, e2, ← EReal.coe_sub, Finset.sum_congr rfl fun c _ => e3 c, ← coe_sum]
  rw [EReal.coe_eq_coe_iff]
  rw [← Finset.sum_sdiff (Finset.subset_univ ((Finset.range 5).image (near s))), add_sub_cancel_right]
  rw [Finset.sum_ite, Finset.sum_const_zero, zero_add]
  refine Finset.sum_congr ?_ fun _ _ => rfl
  ext c
  simp

end Negatives

end
-- ==== Proof.PreRead.lean ====
module

public import proofs.«01_k».proof.Defs
public import proofs.«01_k».proof.Proof.RefRead
public import proofs.«01_k».proof.Proof.Gen.Pre_neighbours_apart
public import Idealize.ShloMosaic.Lib.WordCmp
public import Idealize.ShloMosaic.Lib.Tactic

@[expose] public section

set_option maxRecDepth 65536

noncomputable section

open Idealize.ShloMosaic Idealize.ShloMosaic.TcCoe

/-! What the precondition says of every row: its most similar row is itself, and no three of its next five, in order,
agree modulo 256. -/

namespace Apart

open Cert.Pre_neighbours_apart Cert.ReferenceIdeal.Read

/-- The test of the precondition on a table of ranked positions. -/
def test (idx : IVec S8192x6 32) : IVec S8192x5x5x5 1 :=
  fn_part1 (F := Ideal)
    (broadcastInDim S8192x1x1x1 ![0] Facts.bcast_S8192_S8192x1x1x1_0
      (cmpi .eq (shapeCast S8192 (extractStridedSlice S8192x1 ![0, 0] idx Facts.slices_S8192x6_S8192x1_0_0) Facts.shapeCasts_S8192x1_S8192)
        (iotaInDim S8192 32 0)))
    (broadcastInDim S8192x5x1x1 ![0, 1] Facts.bcast_S8192x5_S8192x5x1x1_0_1
      (andi (extractStridedSlice S8192x5 ![0, 1] idx Facts.slices_S8192x6_S8192x5_0_1)
        (broadcastInDim S8192x5 ![] Facts.bcast_S_S8192x5 (constantI S_ 32 255#32))))
    (broadcastInDim S8192x1x5x1 ![0, 2] Facts.bcast_S8192x5_S8192x1x5x1_0_2
      (andi (extractStridedSlice S8192x5 ![0, 1] idx Facts.slices_S8192x6_S8192x5_0_1)
        (broadcastInDim S8192x5 ![] Facts.bcast_S_S8192x5 (constantI S_ 32 255#32))))
    (broadcastInDim S8192x1x1x5 ![0, 3] Facts.bcast_S8192x5_S8192x1x1x5_0_3
      (andi (extractStridedSlice S8192x5 ![0, 1] idx Facts.slices_S8192x6_S8192x5_0_1)
        (broadcastInDim S8192x5 ![] Facts.bcast_S_S8192x5 (constantI S_ 32 255#32))))
    (iotaInDim S8192x5x5x5 32 1)

/-- The precondition is that test on the reference's own ranked positions. -/
theorem fn_eq (x0 x1 : FVec Ideal S4096x128 .f32) : fn (F := Ideal) x0 x1 = test (val_main_indices (F := Ideal) x0 x1) := rfl

/-- Two truth values hold together. -/
theorem both_one : ∀ x y : BitVec 1, IntOp.andi x y = 1#1 ↔ x = 1#1 ∧ y = 1#1 := by decide

/-- One of two truth values holds. -/
theorem either_one : ∀ x y : BitVec 1, IntOp.ori x y = 1#1 ↔ x = 1#1 ∨ y = 1#1 := by decide

/-- Small words are ordered as their numbers. -/
theorem not_ge {a b : Fin 5} (h : a < b) : ¬ IntOp.cmpi .sge (BitVec.ofNat 32 a.val) (BitVec.ofNat 32 b.val) = 1#1 := by
  revert a b; decide

/-- Words compared for a difference. -/
theorem not_ne {x y : BitVec 32} (h : x = y) : ¬ IntOp.cmpi .ne x y = 1#1 := by
  subst h
  show ¬ BitVec.ofBool (x != x) = 1#1
  simp

/-- The last eight bits of a small word are its remainder by 256. -/
theorem low_bits (p : Nat) (hp : p < 8192) : IntOp.andi (BitVec.ofNat 32 p) 255#32 = BitVec.ofNat 32 (p % 256) := by
  show BitVec.ofNat 32 p &&& 255#32 = _
  apply BitVec.eq_of_toNat_eq
  rw [BitVec.toNat_and, BitVec.toNat_ofNat, BitVec.toNat_ofNat, BitVec.toNat_ofNat,
    show p % 2 ^ 32 = p from Nat.mod_eq_of_lt (by omega), show p % 256 % 2 ^ 32 = p % 256 from Nat.mod_eq_of_lt (by omega)]
  exact Nat.and_two_pow_sub_one_eq_mod p 8

/-- The test at an index, read. -/
theorem test_apply (idx : IVec S8192x6 32) (h : test idx = fun _ => 1#1) (r : Fin 8192) (a b c : Fin 5) :
    idx (ix2 r 0) = BitVec.ofNat 32 r.val ∧
      (a < b → b < c →
        IntOp.andi (idx (ix2 r ⟨1 + a.val, by omega⟩)) 255#32 = IntOp.andi (idx (ix2 r ⟨1 + b.val, by omega⟩)) 255#32 →
        IntOp.andi (idx (ix2 r ⟨1 + b.val, by omega⟩)) 255#32 = IntOp.andi (idx (ix2 r ⟨1 + c.val, by omega⟩)) 255#32 → False) := by
  have e : test idx (ix4 r a b c) = IntOp.andi (IntOp.cmpi .eq (idx (ix2 r 0)) (BitVec.ofNat 32 r.val))
      (IntOp.ori (IntOp.ori (IntOp.ori (IntOp.cmpi .sge (BitVec.ofNat 32 a.val) (BitVec.ofNat 32 b.val))
            (IntOp.cmpi .sge (BitVec.ofNat 32 b.val) (BitVec.ofNat 32 c.val)))
          (IntOp.cmpi .ne (IntOp.andi (idx (ix2 r ⟨1 + a.val, by omega⟩)) 255#32) (IntOp.andi (idx (ix2 r ⟨1 + b.val, by omega⟩)) 255#32)))
        (IntOp.cmpi .ne (IntOp.andi (idx (ix2 r ⟨1 + b.val, by omega⟩)) 255#32) (IntOp.andi (idx (ix2 r ⟨1 + c.val, by omega⟩)) 255#32))) := by
    pointwise [test, fn_part1]
  have h1 := congrFun h (ix4 r a b c)
  rw [e, both_one, either_one, either_one, either_one, WordCmp.cmpi_eq_eq] at h1
  obtain ⟨h1, h2⟩ := h1
  refine ⟨?_, fun hab hbc e1 e2 => ?_⟩
  · by_contra hne
    rw [decide_eq_false hne] at h1
    exact absurd h1 (by decide)
  · rcases h2 with ((h2 | h2) | h2) | h2
    · exact not_ge hab h2
    · exact not_ge hbc h2
    · exact not_ne e1 h2
    · exact not_ne e2 h2

variable (x0 x1 : FVec Ideal S4096x128 .f32)

/-- A row of the reference's similarities. -/
abbrev row (r : Fin 8192) : Fin 8192 → EReal := fun c => val_main_v7 (F := Ideal) x0 x1 (ix2 r c)

/-- The most similar row of a row is itself. -/
theorem first_self (h : fn (F := Ideal) x0 x1 = fun _ => 1#1) (r : Fin 8192) :
    Picks.pick (row x0 x1 r) ⟨0, by decide⟩ = r := by
  have h1 := (test_apply _ ((fn_eq x0 x1).symm.trans h) r 0 0 0).1
  rw [indices_apply] at h1
  have h2 := congrArg BitVec.toNat h1
  have hp := (Picks.pick (row x0 x1 r) ⟨0, by decide⟩).isLt
  have hr := r.isLt
  rw [BitVec.toNat_ofNat, BitVec.toNat_ofNat, Nat.mod_eq_of_lt (by omega), Nat.mod_eq_of_lt (by omega)] at h2
  exact Fin.ext h2

/-- No three of a row's five neighbours, in order, agree modulo 256. -/
theorem three_apart (h : fn (F := Ideal) x0 x1 = fun _ => 1#1) (r : Fin 8192) (a b c : Fin 5) (hab : a < b) (hbc : b < c)
    (e1 : (Picks.pick (row x0 x1 r) ⟨1 + a.val, by omega⟩).val % 256 = (Picks.pick (row x0 x1 r) ⟨1 + b.val, by omega⟩).val % 256)
    (e2 : (Picks.pick (row x0 x1 r) ⟨1 + b.val, by omega⟩).val % 256 = (Picks.pick (row x0 x1 r) ⟨1 + c.val, by omega⟩).val % 256) : False := by
  refine (test_apply _ ((fn_eq x0 x1).symm.trans h) r a b c).2 hab hbc ?_ ?_
  · rw [indices_apply, indices_apply, low_bits _ (Fin.isLt _), low_bits _ (Fin.isLt _), e1]
  · rw [indices_apply, indices_apply, low_bits _ (Fin.isLt _), low_bits _ (Fin.isLt _), e2]

end Apart

end
-- ==== Proof.Rows.lean ====
module

public import proofs.«01_k».proof.Proof.PointK
public import proofs.«01_k».proof.Proof.Units
public import proofs.«01_k».proof.Proof.Negatives
public import proofs.«01_k».proof.Proof.PreRead

@[expose] public section

set_option maxRecDepth 65536

noncomputable section

open Idealize.ShloMosaic Idealize.ShloMosaic.TcCoe

/-! One row of the loss: the kernel's term is the reference's. -/

namespace Rows

open Cert.ReferenceIdeal.Read Cert.KernelIdeal.Value Cert.KernelIdeal.Gen

variable (x0 x1 : Arr)

/-- A normalised feature of the reference as a real number. -/
def feat (r : Fin 8192) (k : Fin 128) : ℝ :=
  Classical.choose (Units.unit_real (fun j : Fin 128 => val_main_v0 (F := Ideal) x0 x1 (ix2 r j)) k)

/-- It is the reference's. -/
theorem feat_eq (r : Fin 8192) (k : Fin 128) : val_main_v5 (F := Ideal) x0 x1 (ix2 r k) = (feat x0 x1 r k : EReal) :=
  (Units.reference_feats x0 x1 r k).trans (Classical.choose_spec (Units.unit_real _ k))

/-- It is the kernel's. -/
theorem kernel_feat (r : Fin 8192) (k : Fin 128) : k0_pay1 (F := Ideal) (val_main_v0 (F := Ideal) x0 x1) (ix2 r k) = (feat x0 x1 r k : EReal) :=
  (Units.kernel_feats _ r k).trans (Classical.choose_spec (Units.unit_real _ k))

/-- The similarity of two rows as a real number. -/
def sim (r c : Fin 8192) : ℝ := ∑ k : Fin 128, feat x0 x1 r k * feat x0 x1 c k

/-- It is the reference's. -/
theorem sim_eq (r c : Fin 8192) : val_main_v7 (F := Ideal) x0 x1 (ix2 r c) = (sim x0 x1 r c : EReal) := by
  rw [sim_apply]
  unfold sim
  rw [Negatives.coe_sum]
  refine Finset.sum_congr rfl fun k _ => ?_
  rw [feat_eq, feat_eq, EReal.coe_mul]

/-- A row of the reference's similarities. -/
theorem row_eq (r : Fin 8192) : Apart.row x0 x1 r = Negatives.ranked (sim x0 x1 r) := funext fun c => sim_eq x0 x1 r c

/-- The product of a row's positive pair. -/
def pair (r : Fin 8192) : EReal :=
  ∑ k : Fin 128, x0 (ix2 ⟨r.val % 4096, Nat.mod_lt _ (by decide)⟩ k) * x1 (ix2 ⟨r.val % 4096, Nat.mod_lt _ (by decide)⟩ k)

/-- The reference's term of a row. -/
def term (r : Fin 8192) : EReal :=
  -Ideal.log (Ideal.div (val_main_v14 (F := Ideal) x0 x1 (ix1 r)) (val_main_v42 (F := Ideal) x0 x1 (ix1 r) + val_main_v14 (F := Ideal) x0 x1 (ix1 r)))

variable (pre : Cert.Pre_neighbours_apart.fn (F := Ideal) x0 x1 = fun _ => 1#1)
variable (i : Cert.KernelIdeal.grid1.Coords) (v0 : Vec Ideal Cert.KernelIdeal.S256x128 .f32) (v2 : Vec Ideal Cert.KernelIdeal.S128x8192 .f32)
variable (l : Fin 256) (r : Fin 8192) (hr : r.val = l.val + 256 * (i 0).val)
variable (h0 : ∀ k : Fin 128, v0 (ix2 l k) = (feat x0 x1 r k : EReal))
variable (h2 : ∀ (k : Fin 128) (c : Fin 8192), v2 (ix2 k c) = (feat x0 x1 c k : EReal) * (Consts.rate : EReal))

include hr h0 h2 in
/-- The kernel's masked similarities of a row. -/
theorem masked_eq (c : Fin 8192) : k1_pay1 i v0 v2 (ix2 l c) = Negatives.masked (sim x0 x1 r) r c := by
  rw [sims_apply]
  unfold Negatives.masked
  by_cases h : c = r
  · rw [if_pos h, if_pos (by rw [h]; exact hr)]
  · rw [if_neg h, if_neg (fun e => h (Fin.ext (e.trans hr.symm)))]
    unfold sim
    rw [Finset.sum_mul, Negatives.coe_sum]
    refine Finset.sum_congr rfl fun k _ => ?_
    rw [h0, h2, ← EReal.coe_mul, ← EReal.coe_mul, mul_assoc]

include pre hr h0 h2 in
/-- The sum the kernel removes from a row: the exponentials of the five neighbours. -/
theorem removed_row : (Rounds.state (fun q => cand i v0 v2 (ix2 l q)) 5).2.1
    = ((∑ a ∈ Finset.range 5, Real.exp (sim x0 x1 r (Negatives.near (sim x0 x1 r) a) * Consts.rate) : ℝ) : EReal) := by
  have self : Picks.pick (Negatives.ranked (sim x0 x1 r)) ⟨0, by decide⟩ = r := by
    rw [← row_eq]; exact Apart.first_self x0 x1 pre r
  have L := Negatives.lead (sim x0 x1 r) r self
  have ef : (fun c : Fin 8192 => k1_pay1 i v0 v2 (ix2 l c)) = Negatives.masked (sim x0 x1 r) r :=
    funext (masked_eq x0 x1 i v0 v2 l r hr h0 h2)
  obtain ⟨τ, hτ⟩ := TopTwo.lead_slots L (cls := fun c : Fin 8192 => (⟨c.val % 256, Nat.mod_lt _ (by omega)⟩ : Fin 256))
    (fun a b c hab hbc hc e1 e2 => by
      have e1 := congrArg Fin.val e1
      have e2 := congrArg Fin.val e2
      dsimp only at e1 e2
      rw [Negatives.near_of_lt _ a (by omega), Negatives.near_of_lt _ b (by omega)] at e1
      rw [Negatives.near_of_lt _ b (by omega), Negatives.near_of_lt _ c (by omega)] at e2
      rw [← row_eq] at e1 e2
      exact Apart.three_apart x0 x1 pre r ⟨a, by omega⟩ ⟨b, by omega⟩ ⟨c, hc⟩ hab hbc e1 e2)
    (H := fun q : Fin 256 => (⟨q.val, by omega⟩ : Fin 512)) (W := fun q : Fin 256 => (⟨256 + q.val, by omega⟩ : Fin 512))
    (fun a b e => Fin.ext (by have e := congrArg Fin.val e; dsimp only at e; omega))
    (fun a b e => Fin.ext (by have e := congrArg Fin.val e; dsimp only at e; omega))
    (fun a b e => by have e := congrArg Fin.val e; have := a.isLt; dsimp only at e; omega)
    (fun j => by
      have hj := j.isLt
      by_cases h : j.val < 256
      · exact Or.inl ⟨⟨j.val, h⟩, rfl⟩
      · exact Or.inr ⟨⟨j.val - 256, by omega⟩, Fin.ext (show 256 + (j.val - 256) = j.val by omega)⟩)
    (g := fun q => cand i v0 v2 (ix2 l q))
    (fun q => by rw [← ef]; exact cand_two i v0 v2 l q)
  exact Rounds.removed_eq hτ

include pre hr h0 h2 in
/-- The kernel's term of a row is the reference's. -/
theorem term_eq : rowTerm (fun c => k1_pay1 i v0 v2 (ix2 l c)) (fun q => cand i v0 v2 (ix2 l q)) (pair x0 x1 r) = term x0 x1 r := by
  have self : Picks.pick (Negatives.ranked (sim x0 x1 r)) ⟨0, by decide⟩ = r := by
    rw [← row_eq]; exact Apart.first_self x0 x1 pre r
  have ef : (fun c : Fin 8192 => k1_pay1 i v0 v2 (ix2 l c)) = Negatives.masked (sim x0 x1 r) r :=
    funext (masked_eq x0 x1 i v0 v2 l r hr h0 h2)
  have en := Negatives.left_over (sim x0 x1 r) r self
  rw [← row_eq] at en
  unfold rowTerm term
  rw [ef, removed_row x0 x1 pre i v0 v2 l r hr h0 h2, positive_apply, negatives_apply, en, zero_sub]
  rfl

end Rows

end
-- ==== Proof.Fold.lean ====
module

public import proofs.«01_k».proof.Proof.Vocab
public import Idealize.ShloMosaic.Lib.Pointwise

@[expose] public section

set_option maxRecDepth 65536

noncomputable section

open Idealize.ShloMosaic Idealize.ShloMosaic.TcCoe Idealize.SL.Sem
open Idealize.ShloMosaic.Pipeline (Dat)

/-! What the two kernels leave in their result arrays: the normalised features and their scaled transpose after the
first, the running total over the thirty-two row blocks after the second. -/

namespace Cert.KernelIdeal.Value

open Cert.KernelIdeal Cert.KernelIdeal.Gen

variable {F : FTy → Type} [FloatOps F] [Named F]
variable (V : (c : Dev nD) → (b : Ref sig .tc) → Buf (Elt F) ((c : Thread nD τ).loc b))

/-- The total after row block `n`. -/
def chain (c : Dev nD) : (n : ℕ) → n < cfg1.N → Vec F S1x1 .f32
  | 0, h => point (grid1.coords ⟨0, h⟩) (iblk1 V c 0 ⟨0, h⟩) (iblk1 V c 1 ⟨0, h⟩) (iblk1 V c 2 ⟨0, h⟩) (iblk1 V c 3 ⟨0, h⟩) k1_pay103
  | n + 1, h => point (grid1.coords ⟨n + 1, h⟩) (iblk1 V c 0 ⟨n + 1, h⟩) (iblk1 V c 1 ⟨n + 1, h⟩) (iblk1 V c 2 ⟨n + 1, h⟩)
      (iblk1 V c 3 ⟨n + 1, h⟩) (chain c n (Nat.lt_of_succ_lt h))

/-- The output's staging block after point `n` is that total. -/
theorem outsAt_eq (c : Dev nD) : ∀ (n : ℕ) (h : n < cfg1.N), outsAt1 V c n h = chain V c n h
  | 0, h => (outsAt1_A V c ⟨0, h⟩ rfl).trans (out_A ..)
  | n + 1, h => by
    have hN : cfg1.N = 32 := N_1
    have hB : ¬(⟨n + 1, h⟩ : Fin cfg1.N).val % 32 = 0 := by dsimp only; omega
    rw [outsAt1_B V c ⟨n + 1, h⟩ hB, out_B]
    show point _ _ _ _ _ (outsAt1 V c n _) = point _ _ _ _ _ (chain V c n _)
    rw [outsAt_eq c n]

/-- The last point of the grid. -/
def last1 : Fin cfg1.N := ⟨31, by rw [show cfg1.N = 32 from N_1]; decide⟩

/-- What the result array ends with. -/
abbrev total (c : Dev nD) : Buf (Elt F) ((c : Thread nD τ).loc main_v2) := chain V c last1.val last1.isLt

/-- The one write-back, at the last point, writes the total. -/
theorem flushed_eq (c : Dev nD) (t : Fin cfg1.N) (hf : (cfg1.win 4).flush t = true) :
    (dat1 V c).flushed 4 t = ((cfg1.win 4).blk t).view.read (Elt F) (total V c) := by
  have hN : cfg1.N = 32 := N_1
  have h3 : t.val = 31 := by have := (flush1_4 t).mp hf; have := t.isLt; omega
  obtain rfl : t = last1 := Fin.ext h3
  show (cfg1.win 4).cut (grid1.coords last1) ((dat1 V c).after 4 last1) = _
  rw [after1_4, outsAt_eq]
  have hz' : (fun a => win1_4.index last1 a * main_v2.ty.shape.size a) = fun _ => 0 := funext fun a => by fin_cases a <;> decide
  exact (Memref.read_access_unit_zero (Elt F) main_v2 hz' (fun a => by rw [congrFun hz' a]; simp) (total V c)).symm

/-- So the loss kernel's result array ends holding the total after the last row block. -/
theorem final_total (c : Dev nD) : (dat1 V c).arrAt 4 cfg1.N = total V c :=
  (dat1 V c).arrAt_eq_of_cover 4 (total V c) (flushed_eq V c) fun i =>
    ⟨last1, (flush1_4 last1).mpr rfl, by
      show i ∈ ((View.whole main_v2).slice (win1_4.rect last1)).set
      rw [View.set_slice_whole, Rect.mem_set_unit]
      intro a
      have h0 : (i 0 : Nat) < 1 := (i 0).isLt
      have h1 : (i 1 : Nat) < 1 := (i 1).isLt
      match a with
      | ⟨0, _⟩ => show win1_4.index last1 0 * win1_4.size 0 ≤ (i 0 : Nat) ∧ (i 0 : Nat) < win1_4.index last1 0 * win1_4.size 0 + win1_4.xsize (grid1.coords last1) 0
                  rw [show win1_4.index last1 0 * win1_4.size 0 = 0 from by decide +kernel, show win1_4.xsize (grid1.coords last1) 0 = 1 from by decide +kernel]; omega
      | ⟨1, _⟩ => show win1_4.index last1 1 * win1_4.size 1 ≤ (i 1 : Nat) ∧ (i 1 : Nat) < win1_4.index last1 1 * win1_4.size 1 + win1_4.xsize (grid1.coords last1) 1
                  rw [show win1_4.index last1 1 * win1_4.size 1 = 0 from by decide +kernel, show win1_4.xsize (grid1.coords last1) 1 = 1 from by decide +kernel]; omega⟩

/-- The preparing kernel's input block is the whole array. -/
theorem iblk0_eq (c : Dev nD) (t : Fin cfg0.N) : (iblk0 V c 0 t : Vec F S8192x128 .f32) = V c main_v0 := by
  have hz' : (fun a => win0_0.index t a * main_v0.ty.shape.size a) = fun _ => 0 := funext fun a => by fin_cases a <;> rfl
  exact Memref.read_access_unit_zero (Elt F) main_v0 hz' (fun a => by rw [congrFun hz' a]; simp) (V c main_v0)

/-- What the preparing kernel leaves in its first result's block. -/
theorem out0_1_eq (x : Vec F S8192x128 .f32) : out0_1 x = k0_pay1 x := by
  unfold out0_1
  rw [View.canon_unit_zero (S := S8192x128) hz, View.ld_unit_zero (S := S8192x128) hz]

/-- What the preparing kernel leaves in its second result's block. -/
theorem out0_2_eq (x : Vec F S8192x128 .f32) : out0_2 x = k0_pay2 x := by
  unfold out0_2
  rw [View.canon_unit_zero (S := S128x8192) hz, View.ld_unit_zero (S := S8192x128) hz]

/-- The first result of the preparing kernel. -/
abbrev feats (c : Dev nD) : Buf (Elt F) ((c : Thread nD τ).loc main_v1_0) := k0_pay1 (F := F) (V c main_v0)
/-- The second result of the preparing kernel. -/
abbrev featsT (c : Dev nD) : Buf (Elt F) ((c : Thread nD τ).loc main_v1_1) := k0_pay2 (F := F) (V c main_v0)

/-- The first result array ends holding the normalised features. -/
theorem final_feats (c : Dev nD) : (dat0 V c).arrAt 1 cfg0.N = feats V c :=
  (dat0 V c).arrAt_eq_of_cover 1 (feats V c)
    (fun t _ => by
      show (cfg0.win 1).cut (grid0.coords t) ((dat0 V c).after 1 t) = _
      rw [after0_1, iblk0_eq, out0_1_eq]
      have hz' : (fun a => win0_1.index t a * main_v1_0.ty.shape.size a) = fun _ => 0 := funext fun a => by fin_cases a <;> rfl
      exact (Memref.read_access_unit_zero (Elt F) main_v1_0 hz' (fun a => by rw [congrFun hz' a]; simp) (feats V c)).symm)
    fun i => ⟨t0_0, flush0_1 _, by
      show i ∈ ((View.whole main_v1_0).slice (win0_1.rect t0_0)).set
      rw [View.set_slice_whole, Rect.mem_set_unit]
      intro a
      have h0 : (i 0 : Nat) < 8192 := (i 0).isLt
      have h1 : (i 1 : Nat) < 128 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 8192 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 128 from by decide +kernel]; omega⟩

/-- The second result array ends holding their scaled transpose. -/
theorem final_featsT (c : Dev nD) : (dat0 V c).arrAt 2 cfg0.N = featsT V c :=
  (dat0 V c).arrAt_eq_of_cover 2 (featsT V c)
    (fun t _ => by
      show (cfg0.win 2).cut (grid0.coords t) ((dat0 V c).after 2 t) = _
      rw [after0_2, iblk0_eq, out0_2_eq]
      have hz' : (fun a => win0_2.index t a * main_v1_1.ty.shape.size a) = fun _ => 0 := funext fun a => by fin_cases a <;> rfl
      exact (Memref.read_access_unit_zero (Elt F) main_v1_1 hz' (fun a => by rw [congrFun hz' a]; simp) (featsT V c)).symm)
    fun i => ⟨t0_0, flush0_2 _, by
      show i ∈ ((View.whole main_v1_1).slice (win0_2.rect t0_0)).set
      rw [View.set_slice_whole, Rect.mem_set_unit]
      intro a
      have h0 : (i 0 : Nat) < 128 := (i 0).isLt
      have h1 : (i 1 : Nat) < 8192 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 128 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 8192 from by decide +kernel]; omega⟩

/-! The blocks the loss kernel reads, at an index. -/

/-- Row block `t` of the normalised features. -/
theorem blk_fn (c : Dev nD) (t : Fin cfg1.N) (r : Fin 256) (k : Fin 128) (h : t.val * 256 + r.val < 8192) :
    (iblk1 V c 0 t : Vec F S256x128 .f32) (ix2 r k) = (V c main_v1_0 : Vec F S8192x128 .f32) (ix2 ⟨t.val * 256 + r.val, h⟩ k) := by
  have hi : ∀ t : Fin cfg1.N, win1_0.index t 0 = t.val ∧ win1_0.index t 1 = 0 := by decide +kernel
  unfold iblk1
  rw [View.read_apply]
  show V c main_v1_0 _ = V c main_v1_0 _
  congr 1
  funext a
  apply Fin.ext
  match a with
  | ⟨0, _⟩ => show win1_0.index t 0 * 256 + 1 * r.val = t.val * 256 + r.val; rw [(hi t).1]; omega
  | ⟨1, _⟩ => show win1_0.index t 1 * 128 + 1 * k.val = k.val; rw [(hi t).2]; omega

/-- The scaled transpose, whole at every point. -/
theorem blk_fnt (c : Dev nD) (t : Fin cfg1.N) (k : Fin 128) (q : Fin 8192) :
    (iblk1 V c 1 t : Vec F S128x8192 .f32) (ix2 k q) = (V c main_v1_1 : Vec F S128x8192 .f32) (ix2 k q) := by
  have hi : ∀ t : Fin cfg1.N, win1_1.index t 0 = 0 ∧ win1_1.index t 1 = 0 := by decide +kernel
  unfold iblk1
  rw [View.read_apply]
  show V c main_v1_1 _ = V c main_v1_1 _
  congr 1
  funext a
  apply Fin.ext
  match a with
  | ⟨0, _⟩ => show win1_1.index t 0 * 128 + 1 * k.val = k.val; rw [(hi t).1]; omega
  | ⟨1, _⟩ => show win1_1.index t 1 * 8192 + 1 * q.val = q.val; rw [(hi t).2]; omega

/-- Row block `t mod 16` of the first argument. -/
theorem blk_f1 (c : Dev nD) (t : Fin cfg1.N) (r : Fin 256) (k : Fin 128) (h : t.val % 16 * 256 + r.val < 4096) :
    (iblk1 V c 2 t : Vec F S256x128 .f32) (ix2 r k) = (V c main_arg0 : Vec F S4096x128 .f32) (ix2 ⟨t.val % 16 * 256 + r.val, h⟩ k) := by
  have hi : ∀ t : Fin cfg1.N, win1_2.index t 0 = t.val % 16 ∧ win1_2.index t 1 = 0 := by decide +kernel
  unfold iblk1
  rw [View.read_apply]
  show V c main_arg0 _ = V c main_arg0 _
  congr 1
  funext a
  apply Fin.ext
  match a with
  | ⟨0, _⟩ => show win1_2.index t 0 * 256 + 1 * r.val = t.val % 16 * 256 + r.val; rw [(hi t).1]; omega
  | ⟨1, _⟩ => show win1_2.index t 1 * 128 + 1 * k.val = k.val; rw [(hi t).2]; omega

/-- Row block `t mod 16` of the second argument. -/
theorem blk_f2 (c : Dev nD) (t : Fin cfg1.N) (r : Fin 256) (k : Fin 128) (h : t.val % 16 * 256 + r.val < 4096) :
    (iblk1 V c 3 t : Vec F S256x128 .f32) (ix2 r k) = (V c main_arg1 : Vec F S4096x128 .f32) (ix2 ⟨t.val % 16 * 256 + r.val, h⟩ k) := by
  have hi : ∀ t : Fin cfg1.N, win1_3.index t 0 = t.val % 16 ∧ win1_3.index t 1 = 0 := by decide +kernel
  unfold iblk1
  rw [View.read_apply]
  show V c main_arg1 _ = V c main_arg1 _
  congr 1
  funext a
  apply Fin.ext
  match a with
  | ⟨0, _⟩ => show win1_3.index t 0 * 256 + 1 * r.val = t.val % 16 * 256 + r.val; rw [(hi t).1]; omega
  | ⟨1, _⟩ => show win1_3.index t 1 * 128 + 1 * k.val = k.val; rw [(hi t).2]; omega

/-- The grid point's own coordinate. -/
theorem coord_val (t : Fin cfg1.N) : (grid1.coords t 0).val = t.val :=
  (by decide +kernel : ∀ t : Fin grid1.N, (grid1.coords t 0).val = t.val) t

end Cert.KernelIdeal.Value

end
-- ==== Proof.RunK.lean ====
module

public import proofs.«01_k».proof.Proof.Fold

@[expose] public section

set_option maxRecDepth 16384

noncomputable section

/-! The kernel's run with its result array read: the total over the row blocks, over what the preparing kernel leaves. -/

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- The result array after the whole program is the total over the row blocks. -/
theorem W3_result (c : Dev nD) : W3 m ρ c (Proc.devRef .tc main_v2) = total (V2 m ρ) c :=
  (W3_arr m ρ c 4).trans (final_total (V2 m ρ) c)

/-- The two feature arrays side by side, first over second: what the preparing kernel reads. -/
abbrev both (c : Dev nD) : Vec F S8192x128 .f32 :=
  concatenate S8192x128 0 [⟨S4096x128, m ((c : Thread nD τ).loc main_arg0)⟩, ⟨S4096x128, m ((c : Thread nD τ).loc main_arg1)⟩]
    concatenates_S4096x128_S4096x128_S8192x128_d0

/-- The preparing kernel reads the two feature arrays side by side. -/
theorem V1_both (c : Dev nD) : V1 m ρ c main_v0 = both m c := rfl

/-- The loss kernel reads the normalised features. -/
theorem V2_feats (c : Dev nD) : V2 m ρ c main_v1_0 = k0_pay1 (both m c) :=
  (W2_arr m ρ c 1).trans ((final_feats (V1 m ρ) c).trans (congrArg k0_pay1 (V1_both m ρ c)))

/-- The loss kernel reads their scaled transpose. -/
theorem V2_featsT (c : Dev nD) : V2 m ρ c main_v1_1 = k0_pay2 (both m c) :=
  (W2_arr m ρ c 2).trans ((final_featsT (V1 m ρ) c).trans (congrArg k0_pay2 (V1_both m ρ c)))

/-- The loss kernel reads the first argument as launched. -/
theorem V2_arg0 (c : Dev nD) : V2 m ρ c main_arg0 = m ((c : Thread nD τ).loc main_arg0) :=
  W2_args m ρ c main_arg0 (by decide)

/-- The loss kernel reads the second argument as launched. -/
theorem V2_arg1 (c : Dev nD) : V2 m ρ c main_arg1 = m ((c : Thread nD τ).loc main_arg1) :=
  W2_args m ρ c main_arg1 (by decide)

set_option backward.isDefEq.respectTransparency.types false in
/-- Every run ends with the result array at the total over the row blocks and the arguments as launched. -/
theorem run : θ_run defs (onTc (τ := τ) (main (F := F))) ⟨m, fun _ => 0, ρ⟩ (fun r => ∀ c : Dev nD,
      r.2.mem ((c.tc : Thread nD τ).loc main_v2) = total (V2 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := Idealize.ShloMosaic.Rounds.initOf (Pipeline.cells cfgs cellOf_inj) (Pipeline.launchToks cfgs cellOf_inj))
    (hu₀ := by
      iintro Hu; imodintro
      isplitl [Hu]
      · iapply (show (ownU (Idealize.ShloMosaic.Rounds.initOf (Pipeline.cells cfgs cellOf_inj) (Pipeline.launchToks cfgs cellOf_inj)) : sProp 𝕄)
            ⊢ BI.own (emb₁ (Idealize.ShloMosaic.Rounds.initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v2 (by decide))).trans (W3_result m ρ c),
       (h c _ (mem_uc main_arg0 (by decide))).trans (W3_main_arg0 m ρ c),
       (h c _ (mem_uc main_arg1 (by decide))).trans (W3_main_arg1 m ρ c)⟩)

end Cert.KernelIdeal.Value

end
-- ==== Proof.Total.lean ====
module

public import proofs.«01_k».proof.Proof.Rows
public import proofs.«01_k».proof.Proof.RunK
public import Idealize.ShloMosaic.Lib.Pipeline.ValueKit.Acc

@[expose] public section

set_option maxRecDepth 65536

noncomputable section

open Idealize.ShloMosaic Idealize.ShloMosaic.TcCoe

/-! The kernel's total over the row blocks is the reference's mean. -/

namespace Rows

open Cert.ReferenceIdeal.Read Cert.KernelIdeal.Value Cert.KernelIdeal.Gen

/-- A positive real factor goes through a sum. -/
theorem add_mul_share (a b : EReal) : (a + b) * ((1 / 8192 : ℝ) : EReal) = a * ((1 / 8192 : ℝ) : EReal) + b * ((1 / 8192 : ℝ) : EReal) :=
  EReal.right_distrib_of_nonneg_of_ne_top (EReal.coe_nonneg.2 (by norm_num)) (EReal.coe_ne_top _) a b

/-- The terms of the rows by number. -/
def termAt (x0 x1 : Arr) (n : ℕ) : EReal := if h : n < 8192 then term x0 x1 ⟨n, h⟩ else 0

variable (m : (ℓ : Loc Cert.KernelIdeal.nD Cert.KernelIdeal.τ Cert.KernelIdeal.sig) → Buf (Elt Ideal) ℓ)
variable (ρ : Dev Cert.KernelIdeal.nD → PrngReg) (d : Dev Cert.KernelIdeal.nD)

/-- The first argument. -/
abbrev first : Arr := m ((d.tc : Thread Cert.KernelIdeal.nD Cert.KernelIdeal.τ).loc Cert.KernelIdeal.main_arg0)
/-- The second argument. -/
abbrev second : Arr := m ((d.tc : Thread Cert.KernelIdeal.nD Cert.KernelIdeal.τ).loc Cert.KernelIdeal.main_arg1)

/-- The two programs put the arguments together alike. -/
theorem both_eq : both m d = val_main_v0 (F := Ideal) (first m d) (second m d) := rfl

/-- The positive pair's product as the kernel's blocks hold it. -/
theorem pair_eq (t : Fin Cert.KernelIdeal.cfg1.N) (l : Fin 256) (r : Fin 8192) (hr : r.val = t.val * 256 + l.val)
    (f1 f2 : Vec Ideal Cert.KernelIdeal.S256x128 .f32) (h1 : f1 = iblk1 (V2 m ρ) d 2 t) (h2 : f2 = iblk1 (V2 m ρ) d 3 t) :
    (∑ k : Fin 128, f1 (ix2 l k) * f2 (ix2 l k)) = pair (first m d) (second m d) r := by
  have hl := l.isLt
  have h : t.val % 16 * 256 + l.val < 4096 := by omega
  have e : (⟨t.val % 16 * 256 + l.val, h⟩ : Fin 4096) = ⟨r.val % 4096, Nat.mod_lt _ (by decide)⟩ := Fin.ext (by dsimp only; omega)
  unfold pair
  refine Finset.sum_congr rfl fun k _ => ?_
  rw [h1, h2, blk_f1 _ _ _ _ _ h, blk_f2 _ _ _ _ _ h, V2_arg0, V2_arg1, e]

variable (pre : Cert.Pre_neighbours_apart.fn (F := Ideal) (first m d) (second m d) = fun _ => 1#1)

include pre in
/-- What a row block adds to the total: its share of the mean. -/
theorem point_eq (t : Fin Cert.KernelIdeal.cfg1.N) (acc : Vec Ideal Cert.KernelIdeal.S1x1 .f32) :
    point (Cert.KernelIdeal.grid1.coords t) (iblk1 (V2 m ρ) d 0 t) (iblk1 (V2 m ρ) d 1 t) (iblk1 (V2 m ρ) d 2 t) (iblk1 (V2 m ρ) d 3 t) acc (ix2 0 0)
      = acc (ix2 0 0) + (∑ l ∈ Finset.range 256, termAt (first m d) (second m d) (t.val * 256 + l)) * ((1 / 8192 : ℝ) : EReal) := by
  have ht : t.val < 32 := lt_of_lt_of_eq t.isLt N_1
  rw [point_apply, ← Fin.sum_univ_eq_sum_range (fun l => termAt (first m d) (second m d) (t.val * 256 + l)) 256]
  refine congrArg (fun z : EReal => acc (ix2 0 0) + z * ((1 / 8192 : ℝ) : EReal)) (Finset.sum_congr rfl fun l _ => ?_)
  have hl := l.isLt
  have hr : t.val * 256 + l.val < 8192 := by omega
  rw [pair_eq m ρ d t l ⟨t.val * 256 + l.val, hr⟩ rfl _ _ rfl rfl]
  unfold termAt
  rw [dif_pos hr]
  refine term_eq (first m d) (second m d) pre _ _ _ l ⟨t.val * 256 + l.val, hr⟩ ?_ (fun k => ?_) (fun k c => ?_)
  · rw [coord_val]
    dsimp only; omega
  · rw [blk_fn _ _ _ _ _ hr, V2_feats, both_eq]
    exact kernel_feat (first m d) (second m d) _ k
  · rw [blk_fnt, V2_featsT, Units.kernel_featsT, both_eq, kernel_feat (first m d) (second m d)]

include pre in
/-- The running total after row block `n`. -/
theorem chain_eq : ∀ (n : ℕ) (h : n < Cert.KernelIdeal.cfg1.N), chain (V2 m ρ) d n h (ix2 0 0)
    = (∑ t ∈ Finset.range (n + 1), ∑ l ∈ Finset.range 256, termAt (first m d) (second m d) (t * 256 + l)) * ((1 / 8192 : ℝ) : EReal)
  | 0, h => by
    have e0 : (k1_pay103 (F := Ideal)) (ix2 0 0) = (0 : EReal) := by
      pointwise [k1_pay103]
    refine (point_eq m ρ d pre ⟨0, h⟩ _).trans ?_
    rw [e0, zero_add, Finset.sum_range_one]
  | n + 1, h => by
    refine (point_eq m ρ d pre ⟨n + 1, h⟩ _).trans ?_
    rw [chain_eq n (Nat.lt_of_succ_lt h), Finset.sum_range_succ _ (n + 1), add_mul_share]

include pre in
/-- The kernel's result is the reference's. -/
theorem total_eq : total (V2 m ρ) d = val_main_v49 (F := Ideal) (first m d) (second m d) := by
  funext j
  have hj : j = ix2 (0 : Fin 1) (0 : Fin 1) := funext fun a => match a with
    | ⟨0, _⟩ => Subsingleton.elim (α := Fin 1) _ _
    | ⟨1, _⟩ => Subsingleton.elim (α := Fin 1) _ _
  subst hj
  refine (chain_eq m ρ d pre 31 last1.isLt).trans ?_
  rw [loss_apply, Ideal.div_coe (by norm_num)]
  refine congrArg (fun z : EReal => z * ((1 / 8192 : ℝ) : EReal)) ?_
  rw [show 31 + 1 = 32 from rfl, ← Finset.sum_range_mul_split 32 256, show 32 * 256 = 8192 from rfl,
    ← Fin.sum_univ_eq_sum_range (termAt (first m d) (second m d)) 8192]
  exact Finset.sum_congr rfl fun r _ => dif_pos r.isLt

end Rows

end
-- ==== Proof.lean ====
/- The proof of the claims about the contrastive loss kernel: every program runs and leaves its arguments as they were,
   the idealised kernel is the kernel with its two constants named, and over the extended reals the kernel's loss is the
   reference's whenever the neighbours of every row lie apart. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_neighbours_apart
public import proofs.«01_k».proof.Proof.Total
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs, whatever its arguments, and leaves them as they were. -/
theorem kernel_frame : quiescent_Kernel := fun m ρ _ => Cert.Kernel.Gen.frame m ρ

/-- So does the kernel over the extended reals. -/
theorem ideal_frame : quiescent_KernelIdeal := fun m ρ _ => Cert.KernelIdeal.Gen.frame m ρ

/-- So it does under the precondition. -/
theorem ideal_frame_apart : quiescent_KernelIdeal_pre_neighbours_apart := fun m ρ _ => Cert.KernelIdeal.Gen.frame m ρ

/-- The reference runs, whatever its arguments, and leaves them as they were. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does under the precondition. -/
theorem reference_frame_apart : quiescent_ReferenceIdeal_pre_neighbours_apart := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants stand where the kernel's words stood. -/
theorem named_constants : preserves_Kernel_KernelIdeal :=
  ⟨IdealRules.named_const.statement Cert.KernelIdeal.κ "inv_temperature" .f32 0x41A00000#32 ((268435456 / 13421773 : ℝ) : EReal) rfl,
    IdealRules.named_const.statement Cert.KernelIdeal.κ "masked" .f32 0xF149F2CA#32 ⊥ rfl⟩

/-- The kernel's loss is the reference's. -/
theorem same_loss : algebraic_KernelIdeal_ReferenceIdeal_pre_neighbours_apart := by
  intro m ρ m' ρ' hpre hagree
  refine ⟨_, Cert.KernelIdeal.Value.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v49_eq, (hagree c).1, (hagree c).2]
  exact (Rows.total_eq m ρ c (hpre c)).symm

/-- All the claims. -/
theorem claim : Cert.Claim :=
  ⟨Cert.Kernel.Gen.facts, Cert.KernelIdeal.Gen.facts, Cert.ReferenceIdeal.Gen.facts, Cert.Pre_neighbours_apart.Gen.facts,
    kernel_frame, ideal_frame, ideal_frame_apart, reference_frame, reference_frame_apart, named_constants, same_loss⟩

end Cert.Proof

end
